-- ==== Defs.lean ====
def Pre_Kernel [hPre_counts_in_range : Cert.Pre_counts_in_range.Facts] (m : (ℓ : Loc Cert.Kernel.nD Cert.Kernel.τ Cert.Kernel.sig) → Buf (Elt Bits) ℓ) : Prop :=
  ∀ c : Dev Cert.Kernel.nD,
    (Cert.Pre_counts_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_counts_in_range : Cert.Pre_counts_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_counts_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_counts_in_range : Cert.Pre_counts_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_counts_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_counts_in_range : Cert.Pre_counts_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_counts_in_range : Cert.Pre_counts_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] [hPre_counts_in_range : Cert.Pre_counts_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_counts_in_range : Cert.Pre_counts_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v247) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_counts_in_range : Cert.Pre_counts_in_range.Facts),
    quiescent_Kernel (hKernel := hKernel) (hPre_counts_in_range := hPre_counts_in_range)
    ∧ quiescent_KernelIdeal (hKernelIdeal := hKernelIdeal) (hPre_counts_in_range := hPre_counts_in_range)
    ∧ quiescent_ReferenceIdeal (hReferenceIdeal := hReferenceIdeal) (hPre_counts_in_range := hPre_counts_in_range)
    ∧ preserves_Kernel_KernelIdeal
    ∧ algebraic_KernelIdeal_ReferenceIdeal (hKernelIdeal := hKernelIdeal) (hReferenceIdeal := hReferenceIdeal) (hPre_counts_in_range := hPre_counts_in_range)
-- ==== Pre_counts_in_range.lean ====
abbrev S8x2048x2048 : Shape := ⟨3, ![8, 2048, 2048]⟩
abbrev S8 : Shape := ⟨1, ![8]⟩
abbrev S_ : Shape := ⟨0, ![]⟩

class Facts : Prop where
  bcast_S_S8 : S_.BroadcastsInDim S8 (![] : Fin 0 → Fin S8.rank)

variable [Facts]

def fn {F : FTy → Type} [FloatOps F] (main_arg0 : FVec F S8x2048x2048 .f32) (main_arg1 : IVec S8 32) (main_arg2 : IVec S8 32) : IVec S8 1 :=
  let main_c : IVec S_ 32 := constantI S_ 32 0#32
  let main_v0 : IVec S8 32 := broadcastInDim S8 ![] bcast_S_S8 main_c
  let main_v1 : IVec S8 1 := cmpi .sge main_arg1 main_v0
  let main_c_0 : IVec S_ 32 := constantI S_ 32 2048#32
  let main_v2 : IVec S8 32 := broadcastInDim S8 ![] bcast_S_S8 main_c_0
  let main_v3 : IVec S8 1 := cmpi .slt main_arg1 main_v2
  let main_v4 : IVec S8 1 := andi main_v1 main_v3
  main_v4
-- ==== Kernel.lean ====
abbrev S8x2048x2048 : Shape := ⟨3, ![8, 2048, 2048]⟩
abbrev S8 : Shape := ⟨1, ![8]⟩
abbrev S2048x2048 : Shape := ⟨2, ![2048, 2048]⟩
abbrev S_ : Shape := ⟨0, ![]⟩
abbrev S1 : Shape := ⟨1, ![1]⟩
abbrev S1x2048 : Shape := ⟨2, ![1, 2048]⟩
abbrev S256x1 : Shape := ⟨2, ![256, 1]⟩
abbrev S1x2048x2048 : Shape := ⟨3, ![1, 2048, 2048]⟩
abbrev S256x2048 : Shape := ⟨2, ![256, 2048]⟩
abbrev S256 : Shape := ⟨1, ![256]⟩
abbrev S2048 : Shape := ⟨1, ![2048]⟩

abbrev nBuf : Space → Nat
  | .hbm => 2
  | .vmem => 1
  | .smem => 2
  | _ => 0

abbrev bufTy : (tb : Table) → Fin (tcTables nBuf tb) → BufTy
  | .hbm, ⟨0, _⟩ => ⟨S8x2048x2048, .f32⟩
  | .hbm, ⟨1, _⟩ => ⟨S8x2048x2048, .f32⟩
  | .local _ .vmem, ⟨0, _⟩ => ⟨S2048x2048, .f32⟩
  | .local _ .smem, ⟨0, _⟩ => ⟨S8, .i32⟩
  | .local _ .smem, ⟨1, _⟩ => ⟨S8, .i32⟩
  | _, _ => ⟨S8x2048x2048, .f32⟩

abbrev bufScoped : (cs : CoreSpace) → Fin (nBuf (.core cs)) → Bool
  | .vmem, ⟨0, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_arg1 : Ref sig .tc := ⟨.smem, 0, rfl⟩
abbrev main_arg2 : Ref sig .tc := ⟨.smem, 1, rfl⟩
abbrev cc0_scratch0 : Ref sig .tc := ⟨.vmem, 0, rfl⟩

abbrev nD : Nat := 1
abbrev τ : Topo := Topo.v7x

variable {F : FTy → Type} [FloatOps F]

abbrev grid0 : Pipeline.Grid := ⟨1, ![8], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 3 → Nat :=
  let arg0 : BitVec 32 := BitVec.ofNat 32 (i 0).val
  let c0_i32 : BitVec 32 := 0#32
  let c0_i32_3 : BitVec 32 := 0#32
  ![arg0.toNat, 0, 0]
@[reducible] def k0_t1_loop (v1 : BitVec 32) : Scf.Loop 32 :=
  let c255_i32 : BitVec 32 := 255#32
  let v4 : BitVec 32 := Scalar.addi v1 c255_i32
  let c256_i32 : BitVec 32 := 256#32
  let v5 : BitVec 32 := Scalar.divsi v4 c256_i32
  let c8_i32 : BitVec 32 := 8#32
  let v22 : BitVec 32 := Scalar.subi c8_i32 v5
  let c1_i32 : BitVec 32 := 1#32
  let v24 : BitVec 32 := Scalar.divsi v22 c1_i32
  let v25 : BitVec 32 := Scalar.muli v24 c1_i32
  let v26 : BitVec 32 := Scalar.addi v5 v25
  let c1_i32_7 : BitVec 32 := 1#32
  ⟨v5, v26, c1_i32_7⟩

def k0_off3 (v1 : BitVec 32) (k0_t1 : Fin (k0_t1_loop v1).trips) : Fin 2 → Nat :=
  let c255_i32 : BitVec 32 := 255#32
  let v4 : BitVec 32 := Scalar.addi v1 c255_i32
  let c256_i32 : BitVec 32 := 256#32
  let v5 : BitVec 32 := Scalar.divsi v4 c256_i32
  let c1_i32_7 : BitVec 32 := 1#32
  let arg8 : BitVec 32 := Scf.iv v5 c1_i32_7 k0_t1
  let c256_i32_100 : BitVec 32 := 256#32
  let v136 : BitVec 32 := Scalar.muli arg8 c256_i32_100
  let v137 : Index := Scalar.indexCast v136
  let c0 : Index := 0#32
  ![v137.toNat, 0]
@[reducible] def k0_t2_loop (v1 : BitVec 32) : Scf.Loop 32 :=
  let c255_i32 : BitVec 32 := 255#32
  let v4 : BitVec 32 := Scalar.addi v1 c255_i32
  let c256_i32 : BitVec 32 := 256#32
  let v5 : BitVec 32 := Scalar.divsi v4 c256_i32
  let c8_i32 : BitVec 32 := 8#32
  let v22 : BitVec 32 := Scalar.subi c8_i32 v5
  let c1_i32 : BitVec 32 := 1#32
  let v24 : BitVec 32 := Scalar.divsi v22 c1_i32
  let v25 : BitVec 32 := Scalar.muli v24 c1_i32
  let v26 : BitVec 32 := Scalar.addi v5 v25
  let v23 : BitVec 32 := Scalar.addi v5 v22
  let c1_i32_8 : BitVec 32 := 1#32
  ⟨v26, v23, c1_i32_8⟩
def k0_off4 (v1 : BitVec 32) (k0_t2 : Fin (k0_t2_loop v1).trips) : Fin 2 → Nat :=
  let c255_i32 : BitVec 32 := 255#32
  let v4 : BitVec 32 := Scalar.addi v1 c255_i32
  let c256_i32 : BitVec 32 := 256#32
  let v5 : BitVec 32 := Scalar.divsi v4 c256_i32
  let c8_i32 : BitVec 32 := 8#32
  let v22 : BitVec 32 := Scalar.subi c8_i32 v5
  let c1_i32 : BitVec 32 := 1#32
  let v24 : BitVec 32 := Scalar.divsi v22 c1_i32
  let v25 : BitVec 32 := Scalar.muli v24 c1_i32
  let v26 : BitVec 32 := Scalar.addi v5 v25
  let c1_i32_8 : BitVec 32 := 1#32
  let arg8 : BitVec 32 := Scf.iv v26 c1_i32_8 k0_t2
  let c256_i32_100 : BitVec 32 := 256#32
  let v136 : BitVec 32 := Scalar.muli arg8 c256_i32_100
  let v137 : Index := Scalar.indexCast v136
  let c0 : Index := 0#32
  ![v137.toNat, 0]
@[reducible] def k0_t3_loop (v1 : BitVec 32) : Scf.Loop 32 :=
  let c0_i32_12 : BitVec 32 := 0#32
  let c255_i32 : BitVec 32 := 255#32
  let v4 : BitVec 32 := Scalar.addi v1 c255_i32
  let c256_i32 : BitVec 32 := 256#32
  let v5 : BitVec 32 := Scalar.divsi v4 c256_i32
  let v29 : BitVec 32 := Scalar.subi v5 c0_i32_12
  let c1_i32_14 : BitVec 32 := 1#32
  let v31 : BitVec 32 := Scalar.divsi v29 c1_i32_14
  let v32 : BitVec 32 := Scalar.muli v31 c1_i32_14
  let v33 : BitVec 32 := Scalar.addi c0_i32_12 v32
  let c1_i32_15 : BitVec 32 := 1#32
  ⟨c0_i32_12, v33, c1_i32_15⟩
def k0_off5 (v1 : BitVec 32) (k0_t3 : Fin (k0_t3_loop v1).trips) : Fin 2 → Nat :=
  let c0_i32_12 : BitVec 32 := 0#32
  let c1_i32_15 : BitVec 32 := 1#32
  let arg8 : BitVec 32 := Scf.iv c0_i32_12 c1_i32_15 k0_t3
  let c256_i32_100 : BitVec 32 := 256#32
  let v143 : BitVec 32 := Scalar.muli arg8 c256_i32_100
  let v144 : Index := Scalar.indexCast v143
  let c0 : Index := 0#32
  ![v144.toNat, 0]
@[reducible] def k0_t4_loop (v1 : BitVec 32) : Scf.Loop 32 :=
  let c0_i32_12 : BitVec 32 := 0#32
  let c255_i32 : BitVec 32 := 255#32
  let v4 : BitVec 32 := Scalar.addi v1 c255_i32
  let c256_i32 : BitVec 32 := 256#32
  let v5 : BitVec 32 := Scalar.divsi v4 c256_i32
  let v29 : BitVec 32 := Scalar.subi v5 c0_i32_12
  let c1_i32_14 : BitVec 32 := 1#32
  let v31 : BitVec 32 := Scalar.divsi v29 c1_i32_14
  let v32 : BitVec 32 := Scalar.muli v31 c1_i32_14
  let v33 : BitVec 32 := Scalar.addi c0_i32_12 v32
  let v30 : BitVec 32 := Scalar.addi c0_i32_12 v29
  let c1_i32_16 : BitVec 32 := 1#32
  ⟨v33, v30, c1_i32_16⟩
def k0_off6 (v1 : BitVec 32) (k0_t4 : Fin (k0_t4_loop v1).trips) : Fin 2 → Nat :=
  let c0_i32_12 : BitVec 32 := 0#32
  let c255_i32 : BitVec 32 := 255#32
  let v4 : BitVec 32 := Scalar.addi v1 c255_i32
  let c256_i32 : BitVec 32 := 256#32
  let v5 : BitVec 32 := Scalar.divsi v4 c256_i32
  let v29 : BitVec 32 := Scalar.subi v5 c0_i32_12
  let c1_i32_14 : BitVec 32 := 1#32
  let v31 : BitVec 32 := Scalar.divsi v29 c1_i32_14
  let v32 : BitVec 32 := Scalar.muli v31 c1_i32_14
  let v33 : BitVec 32 := Scalar.addi c0_i32_12 v32
  let c1_i32_16 : BitVec 32 := 1#32
  let arg8 : BitVec 32 := Scf.iv v33 c1_i32_16 k0_t4
  let c256_i32_100 : BitVec 32 := 256#32
  let v143 : BitVec 32 := Scalar.muli arg8 c256_i32_100
  let v144 : Index := Scalar.indexCast v143
  let c0 : Index := 0#32
  ![v144.toNat, 0]
@[reducible] def k0_t5_loop (v1 : BitVec 32) : Scf.Loop 32 :=
  let c0_i32_20 : BitVec 32 := 0#32
  let c255_i32 : BitVec 32 := 255#32
  let v4 : BitVec 32 := Scalar.addi v1 c255_i32
  let c256_i32 : BitVec 32 := 256#32
  let v5 : BitVec 32 := Scalar.divsi v4 c256_i32
  let v37 : BitVec 32 := Scalar.subi v5 c0_i32_20
  let c1_i32_21 : BitVec 32 := 1#32
  let v39 : BitVec 32 := Scalar.divsi v37 c1_i32_21
  let v40 : BitVec 32 := Scalar.muli v39 c1_i32_21
  let v41 : BitVec 32 := Scalar.addi c0_i32_20 v40
  let c1_i32_22 : BitVec 32 := 1#32
  ⟨c0_i32_20, v41, c1_i32_22⟩
def k0_off7 (v1 : BitVec 32) (k0_t5 : Fin (k0_t5_loop v1).trips) : Fin 2 → Nat :=
  let c0_i32_20 : BitVec 32 := 0#32
  let c1_i32_22 : BitVec 32 := 1#32
  let arg8 : BitVec 32 := Scf.iv c0_i32_20 c1_i32_22 k0_t5
  let c256_i32_100 : BitVec 32 := 256#32
  let v143 : BitVec 32 := Scalar.muli arg8 c256_i32_100
  let v144 : Index := Scalar.indexCast v143
  let c0 : Index := 0#32
  ![v144.toNat, 0]
@[reducible] def k0_t6_loop (v1 : BitVec 32) : Scf.Loop 32 :=
  let c0_i32_20 : BitVec 32 := 0#32
  let c255_i32 : BitVec 32 := 255#32
  let v4 : BitVec 32 := Scalar.addi v1 c255_i32
  let c256_i32 : BitVec 32 := 256#32
  let v5 : BitVec 32 := Scalar.divsi v4 c256_i32
  let v37 : BitVec 32 := Scalar.subi v5 c0_i32_20
  let c1_i32_21 : BitVec 32 := 1#32
  let v39 : BitVec 32 := Scalar.divsi v37 c1_i32_21
  let v40 : BitVec 32 := Scalar.muli v39 c1_i32_21
  let v41 : BitVec 32 := Scalar.addi c0_i32_20 v40
  let v38 : BitVec 32 := Scalar.addi c0_i32_20 v37
  let c1_i32_23 : BitVec 32 := 1#32
  ⟨v41, v38, c1_i32_23⟩
def k0_off8 (v1 : BitVec 32) (k0_t6 : Fin (k0_t6_loop v1).trips) : Fin 2 → Nat :=
  let c0_i32_20 : BitVec 32 := 0#32
  let c255_i32 : BitVec 32 := 255#32
  let v4 : BitVec 32 := Scalar.addi v1 c255_i32
  let c256_i32 : BitVec 32 := 256#32
  let v5 : BitVec 32 := Scalar.divsi v4 c256_i32
  let v37 : BitVec 32 := Scalar.subi v5 c0_i32_20
  let c1_i32_21 : BitVec 32 := 1#32
  let v39 : BitVec 32 := Scalar.divsi v37 c1_i32_21
  let v40 : BitVec 32 := Scalar.muli v39 c1_i32_21
  let v41 : BitVec 32 := Scalar.addi c0_i32_20 v40
  let c1_i32_23 : BitVec 32 := 1#32
  let arg8 : BitVec 32 := Scf.iv v41 c1_i32_23 k0_t6
  let c256_i32_100 : BitVec 32 := 256#32
  let v143 : BitVec 32 := Scalar.muli arg8 c256_i32_100
  let v144 : Index := Scalar.indexCast v143
  let c0 : Index := 0#32
  ![v144.toNat, 0]
@[reducible] def k0_t7_loop (v1 : BitVec 32) : Scf.Loop 32 :=
  let c0_i32_28 : BitVec 32 := 0#32
  let c255_i32 : BitVec 32 := 255#32
  let v4 : BitVec 32 := Scalar.addi v1 c255_i32
  let c256_i32 : BitVec 32 := 256#32
  let v5 : BitVec 32 := Scalar.divsi v4 c256_i32
  let v48 : BitVec 32 := Scalar.subi v5 c0_i32_28
  let c1_i32_30 : BitVec 32 := 1#32
  let v50 : BitVec 32 := Scalar.divsi v48 c1_i32_30
  let v51 : BitVec 32 := Scalar.muli v50 c1_i32_30
  let v52 : BitVec 32 := Scalar.addi c0_i32_28 v51
  let c1_i32_31 : BitVec 32 := 1#32
  ⟨c0_i32_28, v52, c1_i32_31⟩
def k0_off9 (v1 : BitVec 32) (k0_t7 : Fin (k0_t7_loop v1).trips) : Fin 2 → Nat :=
  let c0_i32_28 : BitVec 32 := 0#32
  let c1_i32_31 : BitVec 32 := 1#32
  let arg8 : BitVec 32 := Scf.iv c0_i32_28 c1_i32_31 k0_t7
  let c256_i32_100 : BitVec 32 := 256#32
  let v143 : BitVec 32 := Scalar.muli arg8 c256_i32_100
  let v144 : Index := Scalar.indexCast v143
  let c0 : Index := 0#32
  ![v144.toNat, 0]
@[reducible] def k0_t8_loop (v1 : BitVec 32) : Scf.Loop 32 :=
  let c0_i32_28 : BitVec 32 := 0#32
  let c255_i32 : BitVec 32 := 255#32
  let v4 : BitVec 32 := Scalar.addi v1 c255_i32
  let c256_i32 : BitVec 32 := 256#32
  let v5 : BitVec 32 := Scalar.divsi v4 c256_i32
  let v48 : BitVec 32 := Scalar.subi v5 c0_i32_28
  let c1_i32_30 : BitVec 32 := 1#32
  let v50 : BitVec 32 := Scalar.divsi v48 c1_i32_30
  let v51 : BitVec 32 := Scalar.muli v50 c1_i32_30
  let v52 : BitVec 32 := Scalar.addi c0_i32_28 v51
  let v49 : BitVec 32 := Scalar.addi c0_i32_28 v48
  let c1_i32_32 : BitVec 32 := 1#32
  ⟨v52, v49, c1_i32_32⟩
def k0_off10 (v1 : BitVec 32) (k0_t8 : Fin (k0_t8_loop v1).trips) : Fin 2 → Nat :=
  let c0_i32_28 : BitVec 32 := 0#32
  let c255_i32 : BitVec 32 := 255#32
  let v4 : BitVec 32 := Scalar.addi v1 c255_i32
  let c256_i32 : BitVec 32 := 256#32
  let v5 : BitVec 32 := Scalar.divsi v4 c256_i32
  let v48 : BitVec 32 := Scalar.subi v5 c0_i32_28
  let c1_i32_30 : BitVec 32 := 1#32
  let v50 : BitVec 32 := Scalar.divsi v48 c1_i32_30
  let v51 : BitVec 32 := Scalar.muli v50 c1_i32_30
  let v52 : BitVec 32 := Scalar.addi c0_i32_28 v51
  let c1_i32_32 : BitVec 32 := 1#32
  let arg8 : BitVec 32 := Scf.iv v52 c1_i32_32 k0_t8
  let c256_i32_100 : BitVec 32 := 256#32
  let v143 : BitVec 32 := Scalar.muli arg8 c256_i32_100
  let v144 : Index := Scalar.indexCast v143
  let c0 : Index := 0#32
  ![v144.toNat, 0]
@[reducible] def k0_t9_loop (v1 : BitVec 32) : Scf.Loop 32 :=
  let c0_i32_36 : BitVec 32 := 0#32
  let c255_i32 : BitVec 32 := 255#32
  let v4 : BitVec 32 := Scalar.addi v1 c255_i32
  let c256_i32 : BitVec 32 := 256#32
  let v5 : BitVec 32 := Scalar.divsi v4 c256_i32
  let v56 : BitVec 32 := Scalar.subi v5 c0_i32_36
  let c1_i32_37 : BitVec 32 := 1#32
  let v58 : BitVec 32 := Scalar.divsi v56 c1_i32_37
  let v59 : BitVec 32 := Scalar.muli v58 c1_i32_37
  let v60 : BitVec 32 := Scalar.addi c0_i32_36 v59
  let c1_i32_38 : BitVec 32 := 1#32
  ⟨c0_i32_36, v60, c1_i32_38⟩
def k0_off11 (v1 : BitVec 32) (k0_t9 : Fin (k0_t9_loop v1).trips) : Fin 2 → Nat :=
  let c0_i32_36 : BitVec 32 := 0#32
  let c1_i32_38 : BitVec 32 := 1#32
  let arg8 : BitVec 32 := Scf.iv c0_i32_36 c1_i32_38 k0_t9
  let c256_i32_100 : BitVec 32 := 256#32
  let v143 : BitVec 32 := Scalar.muli arg8 c256_i32_100
  let v144 : Index := Scalar.indexCast v143
  let c0 : Index := 0#32
  ![v144.toNat, 0]
@[reducible] def k0_t10_loop (v1 : BitVec 32) : Scf.Loop 32 :=
  let c0_i32_36 : BitVec 32 := 0#32
  let c255_i32 : BitVec 32 := 255#32
  let v4 : BitVec 32 := Scalar.addi v1 c255_i32
  let c256_i32 : BitVec 32 := 256#32
  let v5 : BitVec 32 := Scalar.divsi v4 c256_i32
  let v56 : BitVec 32 := Scalar.subi v5 c0_i32_36
  let c1_i32_37 : BitVec 32 := 1#32
  let v58 : BitVec 32 := Scalar.divsi v56 c1_i32_37
  let v59 : BitVec 32 := Scalar.muli v58 c1_i32_37
  let v60 : BitVec 32 := Scalar.addi c0_i32_36 v59
  let v57 : BitVec 32 := Scalar.addi c0_i32_36 v56
  let c1_i32_39 : BitVec 32 := 1#32
  ⟨v60, v57, c1_i32_39⟩
def k0_off12 (v1 : BitVec 32) (k0_t10 : Fin (k0_t10_loop v1).trips) : Fin 2 → Nat :=
  let c0_i32_36 : BitVec 32 := 0#32
  let c255_i32 : BitVec 32 := 255#32
  let v4 : BitVec 32 := Scalar.addi v1 c255_i32
  let c256_i32 : BitVec 32 := 256#32
  let v5 : BitVec 32 := Scalar.divsi v4 c256_i32
  let v56 : BitVec 32 := Scalar.subi v5 c0_i32_36
  let c1_i32_37 : BitVec 32 := 1#32
  let v58 : BitVec 32 := Scalar.divsi v56 c1_i32_37
  let v59 : BitVec 32 := Scalar.muli v58 c1_i32_37
  let v60 : BitVec 32 := Scalar.addi c0_i32_36 v59
  let c1_i32_39 : BitVec 32 := 1#32
  let arg8 : BitVec 32 := Scf.iv v60 c1_i32_39 k0_t10
  let c256_i32_100 : BitVec 32 := 256#32
  let v143 : BitVec 32 := Scalar.muli arg8 c256_i32_100
  let v144 : Index := Scalar.indexCast v143
  let c0 : Index := 0#32
  ![v144.toNat, 0]
@[reducible] def k0_t11_loop (v1 : BitVec 32) : Scf.Loop 32 :=
  let c0_i32_44 : BitVec 32 := 0#32
  let c255_i32 : BitVec 32 := 255#32
  let v4 : BitVec 32 := Scalar.addi v1 c255_i32
  let c256_i32 : BitVec 32 := 256#32
  let v5 : BitVec 32 := Scalar.divsi v4 c256_i32
  let v67 : BitVec 32 := Scalar.subi v5 c0_i32_44
  let c1_i32_46 : BitVec 32 := 1#32
  let v69 : BitVec 32 := Scalar.divsi v67 c1_i32_46
  let v70 : BitVec 32 := Scalar.muli v69 c1_i32_46
  let v71 : BitVec 32 := Scalar.addi c0_i32_44 v70
  let c1_i32_47 : BitVec 32 := 1#32
  ⟨c0_i32_44, v71, c1_i32_47⟩
def k0_off13 (v1 : BitVec 32) (k0_t11 : Fin (k0_t11_loop v1).trips) : Fin 2 → Nat :=
  let c0_i32_44 : BitVec 32 := 0#32
  let c1_i32_47 : BitVec 32 := 1#32
  let arg8 : BitVec 32 := Scf.iv c0_i32_44 c1_i32_47 k0_t11
  let c256_i32_100 : BitVec 32 := 256#32
  let v143 : BitVec 32 := Scalar.muli arg8 c256_i32_100
  let v144 : Index := Scalar.indexCast v143
  let c0 : Index := 0#32
  ![v144.toNat, 0]
@[reducible] def k0_t12_loop (v1 : BitVec 32) : Scf.Loop 32 :=
  let c0_i32_44 : BitVec 32 := 0#32
  let c255_i32 : BitVec 32 := 255#32
  let v4 : BitVec 32 := Scalar.addi v1 c255_i32
  let c256_i32 : BitVec 32 := 256#32
  let v5 : BitVec 32 := Scalar.divsi v4 c256_i32
  let v67 : BitVec 32 := Scalar.subi v5 c0_i32_44
  let c1_i32_46 : BitVec 32 := 1#32
  let v69 : BitVec 32 := Scalar.divsi v67 c1_i32_46
  let v70 : BitVec 32 := Scalar.muli v69 c1_i32_46
  let v71 : BitVec 32 := Scalar.addi c0_i32_44 v70
  let v68 : BitVec 32 := Scalar.addi c0_i32_44 v67
  let c1_i32_48 : BitVec 32 := 1#32
  ⟨v71, v68, c1_i32_48⟩
def k0_off14 (v1 : BitVec 32) (k0_t12 : Fin (k0_t12_loop v1).trips) : Fin 2 → Nat :=
  let c0_i32_44 : BitVec 32 := 0#32
  let c255_i32 : BitVec 32 := 255#32
  let v4 : BitVec 32 := Scalar.addi v1 c255_i32
  let c256_i32 : BitVec 32 := 256#32
  let v5 : BitVec 32 := Scalar.divsi v4 c256_i32
  let v67 : BitVec 32 := Scalar.subi v5 c0_i32_44
  let c1_i32_46 : BitVec 32 := 1#32
  let v69 : BitVec 32 := Scalar.divsi v67 c1_i32_46
  let v70 : BitVec 32 := Scalar.muli v69 c1_i32_46
  let v71 : BitVec 32 := Scalar.addi c0_i32_44 v70
  let c1_i32_48 : BitVec 32 := 1#32
  let arg8 : BitVec 32 := Scf.iv v71 c1_i32_48 k0_t12
  let c256_i32_100 : BitVec 32 := 256#32
  let v143 : BitVec 32 := Scalar.muli arg8 c256_i32_100
  let v144 : Index := Scalar.indexCast v143
  let c0 : Index := 0#32
  ![v144.toNat, 0]
@[reducible] def k0_t13_loop (v1 : BitVec 32) : Scf.Loop 32 :=
  let c0_i32_52 : BitVec 32 := 0#32
  let c255_i32 : BitVec 32 := 255#32
  let v4 : BitVec 32 := Scalar.addi v1 c255_i32
  let c256_i32 : BitVec 32 := 256#32
  let v5 : BitVec 32 := Scalar.divsi v4 c256_i32
  let v75 : BitVec 32 := Scalar.subi v5 c0_i32_52
  let c1_i32_53 : BitVec 32 := 1#32
  let v77 : BitVec 32 := Scalar.divsi v75 c1_i32_53
  let v78 : BitVec 32 := Scalar.muli v77 c1_i32_53
  let v79 : BitVec 32 := Scalar.addi c0_i32_52 v78
  let c1_i32_54 : BitVec 32 := 1#32
  ⟨c0_i32_52, v79, c1_i32_54⟩
def k0_off15 (v1 : BitVec 32) (k0_t13 : Fin (k0_t13_loop v1).trips) : Fin 2 → Nat :=
  let c0_i32_52 : BitVec 32 := 0#32
  let c1_i32_54 : BitVec 32 := 1#32
  let arg8 : BitVec 32 := Scf.iv c0_i32_52 c1_i32_54 k0_t13
  let c256_i32_100 : BitVec 32 := 256#32
  let v143 : BitVec 32 := Scalar.muli arg8 c256_i32_100
  let v144 : Index := Scalar.indexCast v143
  let c0 : Index := 0#32
  ![v144.toNat, 0]
@[reducible] def k0_t14_loop (v1 : BitVec 32) : Scf.Loop 32 :=
  let c0_i32_52 : BitVec 32 := 0#32
  let c255_i32 : BitVec 32 := 255#32
  let v4 : BitVec 32 := Scalar.addi v1 c255_i32
  let c256_i32 : BitVec 32 := 256#32
  let v5 : BitVec 32 := Scalar.divsi v4 c256_i32
  let v75 : BitVec 32 := Scalar.subi v5 c0_i32_52
  let c1_i32_53 : BitVec 32 := 1#32
  let v77 : BitVec 32 := Scalar.divsi v75 c1_i32_53
  let v78 : BitVec 32 := Scalar.muli v77 c1_i32_53
  let v79 : BitVec 32 := Scalar.addi c0_i32_52 v78
  let v76 : BitVec 32 := Scalar.addi c0_i32_52 v75
  let c1_i32_55 : BitVec 32 := 1#32
  ⟨v79, v76, c1_i32_55⟩
def k0_off16 (v1 : BitVec 32) (k0_t14 : Fin (k0_t14_loop v1).trips) : Fin 2 → Nat :=
  let c0_i32_52 : BitVec 32 := 0#32
  let c255_i32 : BitVec 32 := 255#32
  let v4 : BitVec 32 := Scalar.addi v1 c255_i32
  let c256_i32 : BitVec 32 := 256#32
  let v5 : BitVec 32 := Scalar.divsi v4 c256_i32
  let v75 : BitVec 32 := Scalar.subi v5 c0_i32_52
  let c1_i32_53 : BitVec 32 := 1#32
  let v77 : BitVec 32 := Scalar.divsi v75 c1_i32_53
  let v78 : BitVec 32 := Scalar.muli v77 c1_i32_53
  let v79 : BitVec 32 := Scalar.addi c0_i32_52 v78
  let c1_i32_55 : BitVec 32 := 1#32
  let arg8 : BitVec 32 := Scf.iv v79 c1_i32_55 k0_t14
  let c256_i32_100 : BitVec 32 := 256#32
  let v143 : BitVec 32 := Scalar.muli arg8 c256_i32_100
  let v144 : Index := Scalar.indexCast v143
  let c0 : Index := 0#32
  ![v144.toNat, 0]
@[reducible] def k0_t15_loop (v1 : BitVec 32) : Scf.Loop 32 :=
  let c0_i32_60 : BitVec 32 := 0#32
  let c255_i32 : BitVec 32 := 255#32
  let v4 : BitVec 32 := Scalar.addi v1 c255_i32
  let c256_i32 : BitVec 32 := 256#32
  let v5 : BitVec 32 := Scalar.divsi v4 c256_i32
  let v86 : BitVec 32 := Scalar.subi v5 c0_i32_60
  let c1_i32_62 : BitVec 32 := 1#32
  let v88 : BitVec 32 := Scalar.divsi v86 c1_i32_62
  let v89 : BitVec 32 := Scalar.muli v88 c1_i32_62
  let v90 : BitVec 32 := Scalar.addi c0_i32_60 v89
  let c1_i32_63 : BitVec 32 := 1#32
  ⟨c0_i32_60, v90, c1_i32_63⟩
def k0_off17 (v1 : BitVec 32) (k0_t15 : Fin (k0_t15_loop v1).trips) : Fin 2 → Nat :=
  let c0_i32_60 : BitVec 32 := 0#32
  let c1_i32_63 : BitVec 32 := 1#32
  let arg8 : BitVec 32 := Scf.iv c0_i32_60 c1_i32_63 k0_t15
  let c256_i32_100 : BitVec 32 := 256#32
  let v143 : BitVec 32 := Scalar.muli arg8 c256_i32_100
  let v144 : Index := Scalar.indexCast v143
  let c0 : Index := 0#32
  ![v144.toNat, 0]
@[reducible] def k0_t16_loop (v1 : BitVec 32) : Scf.Loop 32 :=
  let c0_i32_60 : BitVec 32 := 0#32
  let c255_i32 : BitVec 32 := 255#32
  let v4 : BitVec 32 := Scalar.addi v1 c255_i32
  let c256_i32 : BitVec 32 := 256#32
  let v5 : BitVec 32 := Scalar.divsi v4 c256_i32
  let v86 : BitVec 32 := Scalar.subi v5 c0_i32_60
  let c1_i32_62 : BitVec 32 := 1#32
  let v88 : BitVec 32 := Scalar.divsi v86 c1_i32_62
  let v89 : BitVec 32 := Scalar.muli v88 c1_i32_62
  let v90 : BitVec 32 := Scalar.addi c0_i32_60 v89
  let v87 : BitVec 32 := Scalar.addi c0_i32_60 v86
  let c1_i32_64 : BitVec 32 := 1#32
  ⟨v90, v87, c1_i32_64⟩
def k0_off18 (v1 : BitVec 32) (k0_t16 : Fin (k0_t16_loop v1).trips) : Fin 2 → Nat :=
  let c0_i32_60 : BitVec 32 := 0#32
  let c255_i32 : BitVec 32 := 255#32
  let v4 : BitVec 32 := Scalar.addi v1 c255_i32
  let c256_i32 : BitVec 32 := 256#32
  let v5 : BitVec 32 := Scalar.divsi v4 c256_i32
  let v86 : BitVec 32 := Scalar.subi v5 c0_i32_60
  let c1_i32_62 : BitVec 32 := 1#32
  let v88 : BitVec 32 := Scalar.divsi v86 c1_i32_62
  let v89 : BitVec 32 := Scalar.muli v88 c1_i32_62
  let v90 : BitVec 32 := Scalar.addi c0_i32_60 v89
  let c1_i32_64 : BitVec 32 := 1#32
  let arg8 : BitVec 32 := Scf.iv v90 c1_i32_64 k0_t16
  let c256_i32_100 : BitVec 32 := 256#32
  let v143 : BitVec 32 := Scalar.muli arg8 c256_i32_100
  let v144 : Index := Scalar.indexCast v143
  let c0 : Index := 0#32
  ![v144.toNat, 0]
@[reducible] def k0_t17_loop (v1 : BitVec 32) : Scf.Loop 32 :=
  let c0_i32_68 : BitVec 32 := 0#32
  let c255_i32 : BitVec 32 := 255#32
  let v4 : BitVec 32 := Scalar.addi v1 c255_i32
  let c256_i32 : BitVec 32 := 256#32
  let v5 : BitVec 32 := Scalar.divsi v4 c256_i32
  let v94 : BitVec 32 := Scalar.subi v5 c0_i32_68
  let c1_i32_69 : BitVec 32 := 1#32
  let v96 : BitVec 32 := Scalar.divsi v94 c1_i32_69
  let v97 : BitVec 32 := Scalar.muli v96 c1_i32_69
  let v98 : BitVec 32 := Scalar.addi c0_i32_68 v97
  let c1_i32_70 : BitVec 32 := 1#32
  ⟨c0_i32_68, v98, c1_i32_70⟩
def k0_off19 (v1 : BitVec 32) (k0_t17 : Fin (k0_t17_loop v1).trips) : Fin 2 → Nat :=
  let c0_i32_68 : BitVec 32 := 0#32
  let c1_i32_70 : BitVec 32 := 1#32
  let arg8 : BitVec 32 := Scf.iv c0_i32_68 c1_i32_70 k0_t17
  let c256_i32_100 : BitVec 32 := 256#32
  let v143 : BitVec 32 := Scalar.muli arg8 c256_i32_100
  let v144 : Index := Scalar.indexCast v143
  let c0 : Index := 0#32
  ![v144.toNat, 0]
@[reducible] def k0_t18_loop (v1 : BitVec 32) : Scf.Loop 32 :=
  let c0_i32_68 : BitVec 32 := 0#32
  let c255_i32 : BitVec 32 := 255#32
  let v4 : BitVec 32 := Scalar.addi v1 c255_i32
  let c256_i32 : BitVec 32 := 256#32
  let v5 : BitVec 32 := Scalar.divsi v4 c256_i32
  let v94 : BitVec 32 := Scalar.subi v5 c0_i32_68
  let c1_i32_69 : BitVec 32 := 1#32
  let v96 : BitVec 32 := Scalar.divsi v94 c1_i32_69
  let v97 : BitVec 32 := Scalar.muli v96 c1_i32_69
  let v98 : BitVec 32 := Scalar.addi c0_i32_68 v97
  let v95 : BitVec 32 := Scalar.addi c0_i32_68 v94
  let c1_i32_71 : BitVec 32 := 1#32
  ⟨v98, v95, c1_i32_71⟩
def k0_off20 (v1 : BitVec 32) (k0_t18 : Fin (k0_t18_loop v1).trips) : Fin 2 → Nat :=
  let c0_i32_68 : BitVec 32 := 0#32
  let c255_i32 : BitVec 32 := 255#32
  let v4 : BitVec 32 := Scalar.addi v1 c255_i32
  let c256_i32 : BitVec 32 := 256#32
  let v5 : BitVec 32 := Scalar.divsi v4 c256_i32
  let v94 : BitVec 32 := Scalar.subi v5 c0_i32_68
  let c1_i32_69 : BitVec 32 := 1#32
  let v96 : BitVec 32 := Scalar.divsi v94 c1_i32_69
  let v97 : BitVec 32 := Scalar.muli v96 c1_i32_69
  let v98 : BitVec 32 := Scalar.addi c0_i32_68 v97
  let c1_i32_71 : BitVec 32 := 1#32
  let arg8 : BitVec 32 := Scf.iv v98 c1_i32_71 k0_t18
  let c256_i32_100 : BitVec 32 := 256#32
  let v143 : BitVec 32 := Scalar.muli arg8 c256_i32_100
  let v144 : Index := Scalar.indexCast v143
  let c0 : Index := 0#32
  ![v144.toNat, 0]
@[reducible] def k0_t19_loop (v1 : BitVec 32) : Scf.Loop 32 :=
  let c0_i32_76 : BitVec 32 := 0#32
  let c255_i32 : BitVec 32 := 255#32
  let v4 : BitVec 32 := Scalar.addi v1 c255_i32
  let c256_i32 : BitVec 32 := 256#32
  let v5 : BitVec 32 := Scalar.divsi v4 c256_i32
  let v105 : BitVec 32 := Scalar.subi v5 c0_i32_76
  let c1_i32_78 : BitVec 32 := 1#32
  let v107 : BitVec 32 := Scalar.divsi v105 c1_i32_78
  let v108 : BitVec 32 := Scalar.muli v107 c1_i32_78
  let v109 : BitVec 32 := Scalar.addi c0_i32_76 v108
  let c1_i32_79 : BitVec 32 := 1#32
  ⟨c0_i32_76, v109, c1_i32_79⟩
def k0_off21 (v1 : BitVec 32) (k0_t19 : Fin (k0_t19_loop v1).trips) : Fin 2 → Nat :=
  let c0_i32_76 : BitVec 32 := 0#32
  let c1_i32_79 : BitVec 32 := 1#32
  let arg8 : BitVec 32 := Scf.iv c0_i32_76 c1_i32_79 k0_t19
  let c256_i32_100 : BitVec 32 := 256#32
  let v143 : BitVec 32 := Scalar.muli arg8 c256_i32_100
  let v144 : Index := Scalar.indexCast v143
  let c0 : Index := 0#32
  ![v144.toNat, 0]
@[reducible] def k0_t20_loop (v1 : BitVec 32) : Scf.Loop 32 :=
  let c0_i32_76 : BitVec 32 := 0#32
  let c255_i32 : BitVec 32 := 255#32
  let v4 : BitVec 32 := Scalar.addi v1 c255_i32
  let c256_i32 : BitVec 32 := 256#32
  let v5 : BitVec 32 := Scalar.divsi v4 c256_i32
  let v105 : BitVec 32 := Scalar.subi v5 c0_i32_76
  let c1_i32_78 : BitVec 32 := 1#32
  let v107 : BitVec 32 := Scalar.divsi v105 c1_i32_78
  let v108 : BitVec 32 := Scalar.muli v107 c1_i32_78
  let v109 : BitVec 32 := Scalar.addi c0_i32_76 v108
  let v106 : BitVec 32 := Scalar.addi c0_i32_76 v105
  let c1_i32_80 : BitVec 32 := 1#32
  ⟨v109, v106, c1_i32_80⟩
def k0_off22 (v1 : BitVec 32) (k0_t20 : Fin (k0_t20_loop v1).trips) : Fin 2 → Nat :=
  let c0_i32_76 : BitVec 32 := 0#32
  let c255_i32 : BitVec 32 := 255#32
  let v4 : BitVec 32 := Scalar.addi v1 c255_i32
  let c256_i32 : BitVec 32 := 256#32
  let v5 : BitVec 32 := Scalar.divsi v4 c256_i32
  let v105 : BitVec 32 := Scalar.subi v5 c0_i32_76
  let c1_i32_78 : BitVec 32 := 1#32
  let v107 : BitVec 32 := Scalar.divsi v105 c1_i32_78
  let v108 : BitVec 32 := Scalar.muli v107 c1_i32_78
  let v109 : BitVec 32 := Scalar.addi c0_i32_76 v108
  let c1_i32_80 : BitVec 32 := 1#32
  let arg8 : BitVec 32 := Scf.iv v109 c1_i32_80 k0_t20
  let c256_i32_100 : BitVec 32 := 256#32
  let v143 : BitVec 32 := Scalar.muli arg8 c256_i32_100
  let v144 : Index := Scalar.indexCast v143
  let c0 : Index := 0#32
  ![v144.toNat, 0]
@[reducible] def k0_t21_loop (v1 : BitVec 32) : Scf.Loop 32 :=
  let c0_i32_84 : BitVec 32 := 0#32
  let c255_i32 : BitVec 32 := 255#32
  let v4 : BitVec 32 := Scalar.addi v1 c255_i32
  let c256_i32 : BitVec 32 := 256#32
  let v5 : BitVec 32 := Scalar.divsi v4 c256_i32
  let v113 : BitVec 32 := Scalar.subi v5 c0_i32_84
  let c1_i32_85 : BitVec 32 := 1#32
  let v115 : BitVec 32 := Scalar.divsi v113 c1_i32_85
  let v116 : BitVec 32 := Scalar.muli v115 c1_i32_85
  let v117 : BitVec 32 := Scalar.addi c0_i32_84 v116
  let c1_i32_86 : BitVec 32 := 1#32
  ⟨c0_i32_84, v117, c1_i32_86⟩
def k0_off23 (v1 : BitVec 32) (k0_t21 : Fin (k0_t21_loop v1).trips) : Fin 2 → Nat :=
  let c0_i32_84 : BitVec 32 := 0#32
  let c1_i32_86 : BitVec 32 := 1#32
  let arg8 : BitVec 32 := Scf.iv c0_i32_84 c1_i32_86 k0_t21
  let c256_i32_100 : BitVec 32 := 256#32
  let v143 : BitVec 32 := Scalar.muli arg8 c256_i32_100
  let v144 : Index := Scalar.indexCast v143
  let c0 : Index := 0#32
  ![v144.toNat, 0]
@[reducible] def k0_t22_loop (v1 : BitVec 32) : Scf.Loop 32 :=
  let c0_i32_84 : BitVec 32 := 0#32
  let c255_i32 : BitVec 32 := 255#32
  let v4 : BitVec 32 := Scalar.addi v1 c255_i32
  let c256_i32 : BitVec 32 := 256#32
  let v5 : BitVec 32 := Scalar.divsi v4 c256_i32
  let v113 : BitVec 32 := Scalar.subi v5 c0_i32_84
  let c1_i32_85 : BitVec 32 := 1#32
  let v115 : BitVec 32 := Scalar.divsi v113 c1_i32_85
  let v116 : BitVec 32 := Scalar.muli v115 c1_i32_85
  let v117 : BitVec 32 := Scalar.addi c0_i32_84 v116
  let v114 : BitVec 32 := Scalar.addi c0_i32_84 v113
  let c1_i32_87 : BitVec 32 := 1#32
  ⟨v117, v114, c1_i32_87⟩
def k0_off24 (v1 : BitVec 32) (k0_t22 : Fin (k0_t22_loop v1).trips) : Fin 2 → Nat :=
  let c0_i32_84 : BitVec 32 := 0#32
  let c255_i32 : BitVec 32 := 255#32
  let v4 : BitVec 32 := Scalar.addi v1 c255_i32
  let c256_i32 : BitVec 32 := 256#32
  let v5 : BitVec 32 := Scalar.divsi v4 c256_i32
  let v113 : BitVec 32 := Scalar.subi v5 c0_i32_84
  let c1_i32_85 : BitVec 32 := 1#32
  let v115 : BitVec 32 := Scalar.divsi v113 c1_i32_85
  let v116 : BitVec 32 := Scalar.muli v115 c1_i32_85
  let v117 : BitVec 32 := Scalar.addi c0_i32_84 v116
  let c1_i32_87 : BitVec 32 := 1#32
  let arg8 : BitVec 32 := Scf.iv v117 c1_i32_87 k0_t22
  let c256_i32_100 : BitVec 32 := 256#32
  let v143 : BitVec 32 := Scalar.muli arg8 c256_i32_100
  let v144 : Index := Scalar.indexCast v143
  let c0 : Index := 0#32
  ![v144.toNat, 0]
@[reducible] def k0_t23_loop (v1 : BitVec 32) : Scf.Loop 32 :=
  let c0_i32_90 : BitVec 32 := 0#32
  let c255_i32 : BitVec 32 := 255#32
  let v4 : BitVec 32 := Scalar.addi v1 c255_i32
  let c256_i32 : BitVec 32 := 256#32
  let v5 : BitVec 32 := Scalar.divsi v4 c256_i32
  let v124 : BitVec 32 := Scalar.subi v5 c0_i32_90
  let c1_i32_92 : BitVec 32 := 1#32
  let v126 : BitVec 32 := Scalar.divsi v124 c1_i32_92
  let v127 : BitVec 32 := Scalar.muli v126 c1_i32_92
  let v128 : BitVec 32 := Scalar.addi c0_i32_90 v127
  let c1_i32_93 : BitVec 32 := 1#32
  ⟨c0_i32_90, v128, c1_i32_93⟩
def k0_off25 (v1 : BitVec 32) (k0_t23 : Fin (k0_t23_loop v1).trips) : Fin 2 → Nat :=
  let c0_i32_90 : BitVec 32 := 0#32
  let c1_i32_93 : BitVec 32 := 1#32
  let arg8 : BitVec 32 := Scf.iv c0_i32_90 c1_i32_93 k0_t23
  let c256_i32_99 : BitVec 32 := 256#32
  let v135 : BitVec 32 := Scalar.muli arg8 c256_i32_99
  let v136 : Index := Scalar.indexCast v135
  let c0 : Index := 0#32
  ![v136.toNat, 0]
@[reducible] def k0_t24_loop (v1 : BitVec 32) : Scf.Loop 32 :=
  let c0_i32_90 : BitVec 32 := 0#32
  let c255_i32 : BitVec 32 := 255#32
  let v4 : BitVec 32 := Scalar.addi v1 c255_i32
  let c256_i32 : BitVec 32 := 256#32
  let v5 : BitVec 32 := Scalar.divsi v4 c256_i32
  let v124 : BitVec 32 := Scalar.subi v5 c0_i32_90
  let c1_i32_92 : BitVec 32 := 1#32
  let v126 : BitVec 32 := Scalar.divsi v124 c1_i32_92
  let v127 : BitVec 32 := Scalar.muli v126 c1_i32_92
  let v128 : BitVec 32 := Scalar.addi c0_i32_90 v127
  let v125 : BitVec 32 := Scalar.addi c0_i32_90 v124
  let c1_i32_94 : BitVec 32 := 1#32
  ⟨v128, v125, c1_i32_94⟩
def k0_off26 (v1 : BitVec 32) (k0_t24 : Fin (k0_t24_loop v1).trips) : Fin 2 → Nat :=
  let c0_i32_90 : BitVec 32 := 0#32
  let c255_i32 : BitVec 32 := 255#32
  let v4 : BitVec 32 := Scalar.addi v1 c255_i32
  let c256_i32 : BitVec 32 := 256#32
  let v5 : BitVec 32 := Scalar.divsi v4 c256_i32
  let v124 : BitVec 32 := Scalar.subi v5 c0_i32_90
  let c1_i32_92 : BitVec 32 := 1#32
  let v126 : BitVec 32 := Scalar.divsi v124 c1_i32_92
  let v127 : BitVec 32 := Scalar.muli v126 c1_i32_92
  let v128 : BitVec 32 := Scalar.addi c0_i32_90 v127
  let c1_i32_94 : BitVec 32 := 1#32
  let arg8 : BitVec 32 := Scf.iv v128 c1_i32_94 k0_t24
  let c256_i32_99 : BitVec 32 := 256#32
  let v135 : BitVec 32 := Scalar.muli arg8 c256_i32_99
  let v136 : Index := Scalar.indexCast v135
  let c0 : Index := 0#32
  ![v136.toNat, 0]

def k0_chk1_0 (v1 : BitVec 32) : Prop :=
  ((k0_t1_loop v1).OK) ∧
  (∀ k0_t1 : Fin (k0_t1_loop v1).trips, ∀ a, (k0_off3 v1 k0_t1) a + S256x2048.size a ≤ S2048x2048.size a) ∧
  ((k0_t2_loop v1).OK) ∧
  (∀ k0_t2 : Fin (k0_t2_loop v1).trips, ∀ a, (k0_off4 v1 k0_t2) a + S256x2048.size a ≤ S2048x2048.size a) ∧
  ((k0_t3_loop v1).OK) ∧
  (∀ k0_t3 : Fin (k0_t3_loop v1).trips, ∀ a, (k0_off5 v1 k0_t3) a + S256x2048.size a ≤ S2048x2048.size a) ∧
  ((k0_t4_loop v1).OK) ∧
  (∀ k0_t4 : Fin (k0_t4_loop v1).trips, ∀ a, (k0_off6 v1 k0_t4) a + S256x2048.size a ≤ S2048x2048.size a) ∧
  ((k0_t5_loop v1).OK) ∧
  (∀ k0_t5 : Fin (k0_t5_loop v1).trips, ∀ a, (k0_off7 v1 k0_t5) a + S256x2048.size a ≤ S2048x2048.size a) ∧
  ((k0_t6_loop v1).OK) ∧
  (∀ k0_t6 : Fin (k0_t6_loop v1).trips, ∀ a, (k0_off8 v1 k0_t6) a + S256x2048.size a ≤ S2048x2048.size a) ∧
  ((k0_t7_loop v1).OK) ∧
  (∀ k0_t7 : Fin (k0_t7_loop v1).trips, ∀ a, (k0_off9 v1 k0_t7) a + S256x2048.size a ≤ S2048x2048.size a) ∧
  ((k0_t8_loop v1).OK) ∧
  (∀ k0_t8 : Fin (k0_t8_loop v1).trips, ∀ a, (k0_off10 v1 k0_t8) a + S256x2048.size a ≤ S2048x2048.size a) ∧
  ((k0_t9_loop v1).OK) ∧
  (∀ k0_t9 : Fin (k0_t9_loop v1).trips, ∀ a, (k0_off11 v1 k0_t9) a + S256x2048.size a ≤ S2048x2048.size a) ∧
  ((k0_t10_loop v1).OK) ∧
  (∀ k0_t10 : Fin (k0_t10_loop v1).trips, ∀ a, (k0_off12 v1 k0_t10) a + S256x2048.size a ≤ S2048x2048.size a) ∧
  ((k0_t11_loop v1).OK) ∧
  (∀ k0_t11 : Fin (k0_t11_loop v1).trips, ∀ a, (k0_off13 v1 k0_t11) a + S256x2048.size a ≤ S2048x2048.size a) ∧
  ((k0_t12_loop v1).OK) ∧
  (∀ k0_t12 : Fin (k0_t12_loop v1).trips, ∀ a, (k0_off14 v1 k0_t12) a + S256x2048.size a ≤ S2048x2048.size a) ∧
  ((k0_t13_loop v1).OK) ∧
  (∀ k0_t13 : Fin (k0_t13_loop v1).trips, ∀ a, (k0_off15 v1 k0_t13) a + S256x2048.size a ≤ S2048x2048.size a) ∧
  ((k0_t14_loop v1).OK) ∧
  (∀ k0_t14 : Fin (k0_t14_loop v1).trips, ∀ a, (k0_off16 v1 k0_t14) a + S256x2048.size a ≤ S2048x2048.size a) ∧
  ((k0_t15_loop v1).OK) ∧
  (∀ k0_t15 : Fin (k0_t15_loop v1).trips, ∀ a, (k0_off17 v1 k0_t15) a + S256x2048.size a ≤ S2048x2048.size a) ∧
  ((k0_t16_loop v1).OK) ∧
  (∀ k0_t16 : Fin (k0_t16_loop v1).trips, ∀ a, (k0_off18 v1 k0_t16) a + S256x2048.size a ≤ S2048x2048.size a)
def k0_chk1_1 (v1 : BitVec 32) : Prop :=
  ((k0_t17_loop v1).OK) ∧
  (∀ k0_t17 : Fin (k0_t17_loop v1).trips, ∀ a, (k0_off19 v1 k0_t17) a + S256x2048.size a ≤ S2048x2048.size a) ∧
  ((k0_t18_loop v1).OK) ∧
  (∀ k0_t18 : Fin (k0_t18_loop v1).trips, ∀ a, (k0_off20 v1 k0_t18) a + S256x2048.size a ≤ S2048x2048.size a) ∧
  ((k0_t19_loop v1).OK) ∧
  (∀ k0_t19 : Fin (k0_t19_loop v1).trips, ∀ a, (k0_off21 v1 k0_t19) a + S256x2048.size a ≤ S2048x2048.size a) ∧
  ((k0_t20_loop v1).OK) ∧
  (∀ k0_t20 : Fin (k0_t20_loop v1).trips, ∀ a, (k0_off22 v1 k0_t20) a + S256x2048.size a ≤ S2048x2048.size a) ∧
  ((k0_t21_loop v1).OK) ∧
  (∀ k0_t21 : Fin (k0_t21_loop v1).trips, ∀ a, (k0_off23 v1 k0_t21) a + S256x2048.size a ≤ S2048x2048.size a) ∧
  ((k0_t22_loop v1).OK) ∧
  (∀ k0_t22 : Fin (k0_t22_loop v1).trips, ∀ a, (k0_off24 v1 k0_t22) a + S256x2048.size a ≤ S2048x2048.size a) ∧
  ((k0_t23_loop v1).OK) ∧
  (∀ k0_t23 : Fin (k0_t23_loop v1).trips, ∀ a, (k0_off25 v1 k0_t23) a + S256x2048.size a ≤ S2048x2048.size a) ∧
  ((k0_t24_loop v1).OK) ∧
  (∀ k0_t24 : Fin (k0_t24_loop v1).trips, ∀ a, (k0_off26 v1 k0_t24) a + S256x2048.size a ≤ S2048x2048.size a)
def k0_chk1 (v1 : BitVec 32) : Prop :=
  k0_chk1_0 v1 ∧
  k0_chk1_1 v1
theorem k0_t1_ok : ∀ (v1 : BitVec 32) (k0_hw1 : k0_chk1 v1), (k0_t1_loop v1).OK := fun v1 k0_hw1 => k0_hw1.1.1
theorem k0_off3_inb : ∀ (v1 : BitVec 32) (k0_hw1 : k0_chk1 v1) (k0_t1 : Fin (k0_t1_loop v1).trips), ∀ a, (k0_off3 v1 k0_t1) a + S256x2048.size a ≤ S2048x2048.size a := fun v1 k0_hw1 k0_t1 => k0_hw1.1.2.1 k0_t1
theorem k0_t2_ok : ∀ (v1 : BitVec 32) (k0_hw1 : k0_chk1 v1), (k0_t2_loop v1).OK := fun v1 k0_hw1 => k0_hw1.1.2.2.1
theorem k0_off4_inb : ∀ (v1 : BitVec 32) (k0_hw1 : k0_chk1 v1) (k0_t2 : Fin (k0_t2_loop v1).trips), ∀ a, (k0_off4 v1 k0_t2) a + S256x2048.size a ≤ S2048x2048.size a := fun v1 k0_hw1 k0_t2 => k0_hw1.1.2.2.2.1 k0_t2
theorem k0_t3_ok : ∀ (v1 : BitVec 32) (k0_hw1 : k0_chk1 v1), (k0_t3_loop v1).OK := fun v1 k0_hw1 => k0_hw1.1.2.2.2.2.1
theorem k0_off5_inb : ∀ (v1 : BitVec 32) (k0_hw1 : k0_chk1 v1) (k0_t3 : Fin (k0_t3_loop v1).trips), ∀ a, (k0_off5 v1 k0_t3) a + S256x2048.size a ≤ S2048x2048.size a := fun v1 k0_hw1 k0_t3 => k0_hw1.1.2.2.2.2.2.1 k0_t3
theorem k0_t4_ok : ∀ (v1 : BitVec 32) (k0_hw1 : k0_chk1 v1), (k0_t4_loop v1).OK := fun v1 k0_hw1 => k0_hw1.1.2.2.2.2.2.2.1
theorem k0_off6_inb : ∀ (v1 : BitVec 32) (k0_hw1 : k0_chk1 v1) (k0_t4 : Fin (k0_t4_loop v1).trips), ∀ a, (k0_off6 v1 k0_t4) a + S256x2048.size a ≤ S2048x2048.size a := fun v1 k0_hw1 k0_t4 => k0_hw1.1.2.2.2.2.2.2.2.1 k0_t4
theorem k0_t5_ok : ∀ (v1 : BitVec 32) (k0_hw1 : k0_chk1 v1), (k0_t5_loop v1).OK := fun v1 k0_hw1 => k0_hw1.1.2.2.2.2.2.2.2.2.1
theorem k0_off7_inb : ∀ (v1 : BitVec 32) (k0_hw1 : k0_chk1 v1) (k0_t5 : Fin (k0_t5_loop v1).trips), ∀ a, (k0_off7 v1 k0_t5) a + S256x2048.size a ≤ S2048x2048.size a := fun v1 k0_hw1 k0_t5 => k0_hw1.1.2.2.2.2.2.2.2.2.2.1 k0_t5
theorem k0_t6_ok : ∀ (v1 : BitVec 32) (k0_hw1 : k0_chk1 v1), (k0_t6_loop v1).OK := fun v1 k0_hw1 => k0_hw1.1.2.2.2.2.2.2.2.2.2.2.1
theorem k0_off8_inb : ∀ (v1 : BitVec 32) (k0_hw1 : k0_chk1 v1) (k0_t6 : Fin (k0_t6_loop v1).trips), ∀ a, (k0_off8 v1 k0_t6) a + S256x2048.size a ≤ S2048x2048.size a := fun v1 k0_hw1 k0_t6 => k0_hw1.1.2.2.2.2.2.2.2.2.2.2.2.1 k0_t6
theorem k0_t7_ok : ∀ (v1 : BitVec 32) (k0_hw1 : k0_chk1 v1), (k0_t7_loop v1).OK := fun v1 k0_hw1 => k0_hw1.1.2.2.2.2.2.2.2.2.2.2.2.2.1
theorem k0_off9_inb : ∀ (v1 : BitVec 32) (k0_hw1 : k0_chk1 v1) (k0_t7 : Fin (k0_t7_loop v1).trips), ∀ a, (k0_off9 v1 k0_t7) a + S256x2048.size a ≤ S2048x2048.size a := fun v1 k0_hw1 k0_t7 => k0_hw1.1.2.2.2.2.2.2.2.2.2.2.2.2.2.1 k0_t7
theorem k0_t8_ok : ∀ (v1 : BitVec 32) (k0_hw1 : k0_chk1 v1), (k0_t8_loop v1).OK := fun v1 k0_hw1 => k0_hw1.1.2.2.2.2.2.2.2.2.2.2.2.2.2.2.1
theorem k0_off10_inb : ∀ (v1 : BitVec 32) (k0_hw1 : k0_chk1 v1) (k0_t8 : Fin (k0_t8_loop v1).trips), ∀ a, (k0_off10 v1 k0_t8) a + S256x2048.size a ≤ S2048x2048.size a := fun v1 k0_hw1 k0_t8 => k0_hw1.1.2.2.2.2.2.2.2.2.2.2.2.2.2.2.2.1 k0_t8
theorem k0_t9_ok : ∀ (v1 : BitVec 32) (k0_hw1 : k0_chk1 v1), (k0_t9_loop v1).OK := fun v1 k0_hw1 => k0_hw1.1.2.2.2.2.2.2.2.2.2.2.2.2.2.2.2.2.1
theorem k0_off11_inb : ∀ (v1 : BitVec 32) (k0_hw1 : k0_chk1 v1) (k0_t9 : Fin (k0_t9_loop v1).trips), ∀ a, (k0_off11 v1 k0_t9) a + S256x2048.size a ≤ S2048x2048.size a := fun v1 k0_hw1 k0_t9 => k0_hw1.1.2.2.2.2.2.2.2.2.2.2.2.2.2.2.2.2.2.1 k0_t9
theorem k0_t10_ok : ∀ (v1 : BitVec 32) (k0_hw1 : k0_chk1 v1), (k0_t10_loop v1).OK := fun v1 k0_hw1 => k0_hw1.1.2.2.2.2.2.2.2.2.2.2.2.2.2.2.2.2.2.2.1
theorem k0_off12_inb : ∀ (v1 : BitVec 32) (k0_hw1 : k0_chk1 v1) (k0_t10 : Fin (k0_t10_loop v1).trips), ∀ a, (k0_off12 v1 k0_t10) a + S256x2048.size a ≤ S2048x2048.size a := fun v1 k0_hw1 k0_t10 => k0_hw1.1.2.2.2.2.2.2.2.2.2.2.2.2.2.2.2.2.2.2.2.1 k0_t10
theorem k0_t11_ok : ∀ (v1 : BitVec 32) (k0_hw1 : k0_chk1 v1), (k0_t11_loop v1).OK := fun v1 k0_hw1 => k0_hw1.1.2.2.2.2.2.2.2.2.2.2.2.2.2.2.2.2.2.2.2.2.1
theorem k0_off13_inb : ∀ (v1 : BitVec 32) (k0_hw1 : k0_chk1 v1) (k0_t11 : Fin (k0_t11_loop v1).trips), ∀ a, (k0_off13 v1 k0_t11) a + S256x2048.size a ≤ S2048x2048.size a := fun v1 k0_hw1 k0_t11 => k0_hw1.1.2.2.2.2.2.2.2.2.2.2.2.2.2.2.2.2.2.2.2.2.2.1 k0_t11
theorem k0_t12_ok : ∀ (v1 : BitVec 32) (k0_hw1 : k0_chk1 v1), (k0_t12_loop v1).OK := fun v1 k0_hw1 => k0_hw1.1.2.2.2.2.2.2.2.2.2.2.2.2.2.2.2.2.2.2.2.2.2.2.1
theorem k0_off14_inb : ∀ (v1 : BitVec 32) (k0_hw1 : k0_chk1 v1) (k0_t12 : Fin (k0_t12_loop v1).trips), ∀ a, (k0_off14 v1 k0_t12) a + S256x2048.size a ≤ S2048x2048.size a := fun v1 k0_hw1 k0_t12 => k0_hw1.1.2.2.2.2.2.2.2.2.2.2.2.2.2.2.2.2.2.2.2.2.2.2.2.1 k0_t12
theorem k0_t13_ok : ∀ (v1 : BitVec 32) (k0_hw1 : k0_chk1 v1), (k0_t13_loop v1).OK := fun v1 k0_hw1 => k0_hw1.1.2.2.2.2.2.2.2.2.2.2.2.2.2.2.2.2.2.2.2.2.2.2.2.2.1
theorem k0_off15_inb : ∀ (v1 : BitVec 32) (k0_hw1 : k0_chk1 v1) (k0_t13 : Fin (k0_t13_loop v1).trips), ∀ a, (k0_off15 v1 k0_t13) a + S256x2048.size a ≤ S2048x2048.size a := fun v1 k0_hw1 k0_t13 => k0_hw1.1.2.2.2.2.2.2.2.2.2.2.2.2.2.2.2.2.2.2.2.2.2.2.2.2.2.1 k0_t13
theorem k0_t14_ok : ∀ (v1 : BitVec 32) (k0_hw1 : k0_chk1 v1), (k0_t14_loop v1).OK := fun v1 k0_hw1 => k0_hw1.1.2.2.2.2.2.2.2.2.2.2.2.2.2.2.2.2.2.2.2.2.2.2.2.2.2.2.1
theorem k0_off16_inb : ∀ (v1 : BitVec 32) (k0_hw1 : k0_chk1 v1) (k0_t14 : Fin (k0_t14_loop v1).trips), ∀ a, (k0_off16 v1 k0_t14) a + S256x2048.size a ≤ S2048x2048.size a := fun v1 k0_hw1 k0_t14 => k0_hw1.1.2.2.2.2.2.2.2.2.2.2.2.2.2.2.2.2.2.2.2.2.2.2.2.2.2.2.2.1 k0_t14
theorem k0_t15_ok : ∀ (v1 : BitVec 32) (k0_hw1 : k0_chk1 v1), (k0_t15_loop v1).OK := fun v1 k0_hw1 => k0_hw1.1.2.2.2.2.2.2.2.2.2.2.2.2.2.2.2.2.2.2.2.2.2.2.2.2.2.2.2.2.1
theorem k0_off17_inb : ∀ (v1 : BitVec 32) (k0_hw1 : k0_chk1 v1) (k0_t15 : Fin (k0_t15_loop v1).trips), ∀ a, (k0_off17 v1 k0_t15) a + S256x2048.size a ≤ S2048x2048.size a := fun v1 k0_hw1 k0_t15 => k0_hw1.1.2.2.2.2.2.2.2.2.2.2.2.2.2.2.2.2.2.2.2.2.2.2.2.2.2.2.2.2.2.1 k0_t15
theorem k0_t16_ok : ∀ (v1 : BitVec 32) (k0_hw1 : k0_chk1 v1), (k0_t16_loop v1).OK := fun v1 k0_hw1 => k0_hw1.1.2.2.2.2.2.2.2.2.2.2.2.2.2.2.2.2.2.2.2.2.2.2.2.2.2.2.2.2.2.2.1
theorem k0_off18_inb : ∀ (v1 : BitVec 32) (k0_hw1 : k0_chk1 v1) (k0_t16 : Fin (k0_t16_loop v1).trips), ∀ a, (k0_off18 v1 k0_t16) a + S256x2048.size a ≤ S2048x2048.size a := fun v1 k0_hw1 k0_t16 => k0_hw1.1.2.2.2.2.2.2.2.2.2.2.2.2.2.2.2.2.2.2.2.2.2.2.2.2.2.2.2.2.2.2.2 k0_t16
theorem k0_t17_ok : ∀ (v1 : BitVec 32) (k0_hw1 : k0_chk1 v1), (k0_t17_loop v1).OK := fun v1 k0_hw1 => k0_hw1.2.1
theorem k0_off19_inb : ∀ (v1 : BitVec 32) (k0_hw1 : k0_chk1 v1) (k0_t17 : Fin (k0_t17_loop v1).trips), ∀ a, (k0_off19 v1 k0_t17) a + S256x2048.size a ≤ S2048x2048.size a := fun v1 k0_hw1 k0_t17 => k0_hw1.2.2.1 k0_t17
theorem k0_t18_ok : ∀ (v1 : BitVec 32) (k0_hw1 : k0_chk1 v1), (k0_t18_loop v1).OK := fun v1 k0_hw1 => k0_hw1.2.2.2.1
theorem k0_off20_inb : ∀ (v1 : BitVec 32) (k0_hw1 : k0_chk1 v1) (k0_t18 : Fin (k0_t18_loop v1).trips), ∀ a, (k0_off20 v1 k0_t18) a + S256x2048.size a ≤ S2048x2048.size a := fun v1 k0_hw1 k0_t18 => k0_hw1.2.2.2.2.1 k0_t18
theorem k0_t19_ok : ∀ (v1 : BitVec 32) (k0_hw1 : k0_chk1 v1), (k0_t19_loop v1).OK := fun v1 k0_hw1 => k0_hw1.2.2.2.2.2.1
theorem k0_off21_inb : ∀ (v1 : BitVec 32) (k0_hw1 : k0_chk1 v1) (k0_t19 : Fin (k0_t19_loop v1).trips), ∀ a, (k0_off21 v1 k0_t19) a + S256x2048.size a ≤ S2048x2048.size a := fun v1 k0_hw1 k0_t19 => k0_hw1.2.2.2.2.2.2.1 k0_t19
theorem k0_t20_ok : ∀ (v1 : BitVec 32) (k0_hw1 : k0_chk1 v1), (k0_t20_loop v1).OK := fun v1 k0_hw1 => k0_hw1.2.2.2.2.2.2.2.1
theorem k0_off22_inb : ∀ (v1 : BitVec 32) (k0_hw1 : k0_chk1 v1) (k0_t20 : Fin (k0_t20_loop v1).trips), ∀ a, (k0_off22 v1 k0_t20) a + S256x2048.size a ≤ S2048x2048.size a := fun v1 k0_hw1 k0_t20 => k0_hw1.2.2.2.2.2.2.2.2.1 k0_t20
theorem k0_t21_ok : ∀ (v1 : BitVec 32) (k0_hw1 : k0_chk1 v1), (k0_t21_loop v1).OK := fun v1 k0_hw1 => k0_hw1.2.2.2.2.2.2.2.2.2.1
theorem k0_off23_inb : ∀ (v1 : BitVec 32) (k0_hw1 : k0_chk1 v1) (k0_t21 : Fin (k0_t21_loop v1).trips), ∀ a, (k0_off23 v1 k0_t21) a + S256x2048.size a ≤ S2048x2048.size a := fun v1 k0_hw1 k0_t21 => k0_hw1.2.2.2.2.2.2.2.2.2.2.1 k0_t21
theorem k0_t22_ok : ∀ (v1 : BitVec 32) (k0_hw1 : k0_chk1 v1), (k0_t22_loop v1).OK := fun v1 k0_hw1 => k0_hw1.2.2.2.2.2.2.2.2.2.2.2.1
theorem k0_off24_inb : ∀ (v1 : BitVec 32) (k0_hw1 : k0_chk1 v1) (k0_t22 : Fin (k0_t22_loop v1).trips), ∀ a, (k0_off24 v1 k0_t22) a + S256x2048.size a ≤ S2048x2048.size a := fun v1 k0_hw1 k0_t22 => k0_hw1.2.2.2.2.2.2.2.2.2.2.2.2.1 k0_t22
theorem k0_t23_ok : ∀ (v1 : BitVec 32) (k0_hw1 : k0_chk1 v1), (k0_t23_loop v1).OK := fun v1 k0_hw1 => k0_hw1.2.2.2.2.2.2.2.2.2.2.2.2.2.1
theorem k0_off25_inb : ∀ (v1 : BitVec 32) (k0_hw1 : k0_chk1 v1) (k0_t23 : Fin (k0_t23_loop v1).trips), ∀ a, (k0_off25 v1 k0_t23) a + S256x2048.size a ≤ S2048x2048.size a := fun v1 k0_hw1 k0_t23 => k0_hw1.2.2.2.2.2.2.2.2.2.2.2.2.2.2.1 k0_t23
theorem k0_t24_ok : ∀ (v1 : BitVec 32) (k0_hw1 : k0_chk1 v1), (k0_t24_loop v1).OK := fun v1 k0_hw1 => k0_hw1.2.2.2.2.2.2.2.2.2.2.2.2.2.2.2.1
theorem k0_off26_inb : ∀ (v1 : BitVec 32) (k0_hw1 : k0_chk1 v1) (k0_t24 : Fin (k0_t24_loop v1).trips), ∀ a, (k0_off26 v1 k0_t24) a + S256x2048.size a ≤ S2048x2048.size a := fun v1 k0_hw1 k0_t24 => k0_hw1.2.2.2.2.2.2.2.2.2.2.2.2.2.2.2.2 k0_t24

def k0_off27 (i : grid0.Coords) : Fin 3 → Nat :=
  let arg0 : BitVec 32 := BitVec.ofNat 32 (i 0).val
  let c0_i32_95 : BitVec 32 := 0#32
  let c0_i32_96 : BitVec 32 := 0#32
  ![arg0.toNat, 0, 0]
-- ==== ReferenceIdeal.lean ====
abbrev S8x2048x2048 : Shape := ⟨3, ![8, 2048, 2048]⟩
abbrev S8 : Shape := ⟨1, ![8]⟩
abbrev S2048 : Shape := ⟨1, ![2048]⟩
abbrev S1x2048x1 : Shape := ⟨3, ![1, 2048, 1]⟩
abbrev S8x1x1 : Shape := ⟨3, ![8, 1, 1]⟩
abbrev S8x2048x1 : Shape := ⟨3, ![8, 2048, 1]⟩
abbrev S1x1x2048 : Shape := ⟨3, ![1, 1, 2048]⟩
abbrev S8x1x2048 : Shape := ⟨3, ![8, 1, 2048]⟩
abbrev S_ : Shape := ⟨0, ![]⟩
abbrev S8x2048 : Shape := ⟨2, ![8, 2048]⟩

abbrev nBuf : Space → Nat
  | .hbm => 343
  | .vmem => 0
  | .smem => 0
  | _ => 0

abbrev hbmTy0_0 (i : Nat) : BufTy := match i % 128 with
  | 0 => ⟨S8x2048x2048, .f32⟩
  | 1 => ⟨S8, .i32⟩
  | 2 => ⟨S8, .i32⟩
  | 3 => ⟨S2048, .i32⟩
  | 4 => ⟨S1x2048x1, .i32⟩
  | 5 => ⟨S8x1x1, .i32⟩
  | 6 => ⟨S8x2048x1, .i32⟩
  | 7 => ⟨S8x2048x1, .i32⟩
  | 8 => ⟨S8x2048x1, .i1⟩
  | 9 => ⟨S1x1x2048, .i32⟩
  | 10 => ⟨S8x1x1, .i32⟩
  | 11 => ⟨S8x1x2048, .i32⟩
  | 12 => ⟨S8x1x2048, .i32⟩
  | 13 => ⟨S8x1x2048, .i1⟩
  | 14 => ⟨S8x2048x2048, .i1⟩
  | 15 => ⟨S8x2048x2048, .i1⟩
  | 16 => ⟨S8x2048x2048, .i1⟩
  | 17 => ⟨S_, .f32⟩
  | 18 => ⟨S8x2048x2048, .f32⟩
  | 19 => ⟨S8x2048x2048, .f32⟩
  | 20 => ⟨S_, .f32⟩
  | 21 => ⟨S8x2048x2048, .f32⟩
  | 22 => ⟨S8x2048x2048, .f32⟩
  | 23 => ⟨S_, .f32⟩
  | 24 => ⟨S8x2048, .f32⟩
  | 25 => ⟨S8x2048x1, .f32⟩
  | 26 => ⟨S8x2048x1, .f32⟩
  | 27 => ⟨S_, .f32⟩
  | 28 => ⟨S8x2048x1, .f32⟩
  | 29 => ⟨S8x2048x1, .i1⟩
  | 30 => ⟨S_, .f32⟩
  | 31 => ⟨S8x2048x1, .f32⟩
  | 32 => ⟨S8x2048x1, .f32⟩
  | 33 => ⟨S8x2048x2048, .f32⟩
  | 34 => ⟨S8x2048x2048, .f32⟩
  | 35 => ⟨S8x2048x2048, .f32⟩
  | 36 => ⟨S8x2048x2048, .f32⟩
  | 37 => ⟨S8x2048x2048, .f32⟩
  | 38 => ⟨S_, .f32⟩
  | 39 => ⟨S8x2048, .f32⟩
  | 40 => ⟨S8x2048x1, .f32⟩
  | 41 => ⟨S_, .f32⟩
  | 42 => ⟨S8x2048x1, .f32⟩
  | 43 => ⟨S8x2048x1, .i1⟩
  | 44 => ⟨S_, .f32⟩
  | 45 => ⟨S8x2048x1, .f32⟩
  | 46 => ⟨S8x2048x1, .f32⟩
  | 47 => ⟨S8x2048x2048, .f32⟩
  | 48 => ⟨S8x2048x2048, .f32⟩
  | 49 => ⟨S_, .f32⟩
  | 50 => ⟨S8x2048x2048, .f32⟩
  | 51 => ⟨S8x2048x2048, .f32⟩
  | 52 => ⟨S_, .f32⟩
  | 53 => ⟨S8x2048x2048, .f32⟩
  | 54 => ⟨S8x2048x2048, .f32⟩
  | 55 => ⟨S_, .f32⟩
  | 56 => ⟨S8x2048, .f32⟩
  | 57 => ⟨S8x1x2048, .f32⟩
  | 58 => ⟨S8x1x2048, .f32⟩
  | 59 => ⟨S_, .f32⟩
  | 60 => ⟨S8x1x2048, .f32⟩
  | 61 => ⟨S8x1x2048, .i1⟩
  | 62 => ⟨S_, .f32⟩
  | 63 => ⟨S8x1x2048, .f32⟩
  | 64 => ⟨S8x1x2048, .f32⟩
  | 65 => ⟨S8x2048x2048, .f32⟩
  | 66 => ⟨S8x2048x2048, .f32⟩
  | 67 => ⟨S8x2048x2048, .f32⟩
  | 68 => ⟨S8x2048x2048, .f32⟩
  | 69 => ⟨S8x2048x2048, .f32⟩
  | 70 => ⟨S_, .f32⟩
  | 71 => ⟨S8x2048, .f32⟩
  | 72 => ⟨S8x1x2048, .f32⟩
  | 73 => ⟨S_, .f32⟩
  | 74 => ⟨S8x1x2048, .f32⟩
  | 75 => ⟨S8x1x2048, .i1⟩
  | 76 => ⟨S_, .f32⟩
  | 77 => ⟨S8x1x2048, .f32⟩
  | 78 => ⟨S8x1x2048, .f32⟩
  | 79 => ⟨S8x2048x2048, .f32⟩
  | 80 => ⟨S8x2048x2048, .f32⟩
  | 81 => ⟨S_, .f32⟩
  | 82 => ⟨S8x2048x2048, .f32⟩
  | 83 => ⟨S8x2048x2048, .f32⟩
  | 84 => ⟨S_, .f32⟩
  | 85 => ⟨S8x2048x2048, .f32⟩
  | 86 => ⟨S8x2048x2048, .f32⟩
  | 87 => ⟨S_, .f32⟩
  | 88 => ⟨S8x2048, .f32⟩
  | 89 => ⟨S8x2048x1, .f32⟩
  | 90 => ⟨S8x2048x1, .f32⟩
  | 91 => ⟨S_, .f32⟩
  | 92 => ⟨S8x2048x1, .f32⟩
  | 93 => ⟨S8x2048x1, .i1⟩
  | 94 => ⟨S_, .f32⟩
  | 95 => ⟨S8x2048x1, .f32⟩
  | 96 => ⟨S8x2048x1, .f32⟩
  | 97 => ⟨S8x2048x2048, .f32⟩
  | 98 => ⟨S8x2048x2048, .f32⟩
  | 99 => ⟨S8x2048x2048, .f32⟩
  | 100 => ⟨S8x2048x2048, .f32⟩
  | 101 => ⟨S8x2048x2048, .f32⟩
  | 102 => ⟨S_, .f32⟩
  | 103 => ⟨S8x2048, .f32⟩
  | 104 => ⟨S8x2048x1, .f32⟩
  | 105 => ⟨S_, .f32⟩
  | 106 => ⟨S8x2048x1, .f32⟩
  | 107 => ⟨S8x2048x1, .i1⟩
  | 108 => ⟨S_, .f32⟩
  | 109 => ⟨S8x2048x1, .f32⟩
  | 110 => ⟨S8x2048x1, .f32⟩
  | 111 => ⟨S8x2048x2048, .f32⟩
  | 112 => ⟨S8x2048x2048, .f32⟩
  | 113 => ⟨S_, .f32⟩
  | 114 => ⟨S8x2048x2048, .f32⟩
  | 115 => ⟨S8x2048x2048, .f32⟩
  | 116 => ⟨S_, .f32⟩
  | 117 => ⟨S8x2048x2048, .f32⟩
  | 118 => ⟨S8x2048x2048, .f32⟩
  | 119 => ⟨S_, .f32⟩
  | 120 => ⟨S8x2048, .f32⟩
  | 121 => ⟨S8x1x2048, .f32⟩
  | 122 => ⟨S8x1x2048, .f32⟩
  | 123 => ⟨S_, .f32⟩
  | 124 => ⟨S8x1x2048, .f32⟩
  | 125 => ⟨S8x1x2048, .i1⟩
  | 126 => ⟨S_, .f32⟩
  | 127 => ⟨S8x1x2048, .f32⟩
  | _ => ⟨S8x2048x2048, .f32⟩

abbrev hbmTy0_1 (i : Nat) : BufTy := match i % 128 with
  | 0 => ⟨S8x1x2048, .f32⟩
  | 1 => ⟨S8x2048x2048, .f32⟩
  | 2 => ⟨S8x2048x2048, .f32⟩
  | 3 => ⟨S8x2048x2048, .f32⟩
  | 4 => ⟨S8x2048x2048, .f32⟩
  | 5 => ⟨S8x2048x2048, .f32⟩
  | 6 => ⟨S_, .f32⟩
  | 7 => ⟨S8x2048, .f32⟩
  | 8 => ⟨S8x1x2048, .f32⟩
  | 9 => ⟨S_, .f32⟩
  | 10 => ⟨S8x1x2048, .f32⟩
  | 11 => ⟨S8x1x2048, .i1⟩
  | 12 => ⟨S_, .f32⟩
  | 13 => ⟨S8x1x2048, .f32⟩
  | 14 => ⟨S8x1x2048, .f32⟩
  | 15 => ⟨S8x2048x2048, .f32⟩
  | 16 => ⟨S8x2048x2048, .f32⟩
  | 17 => ⟨S_, .f32⟩
  | 18 => ⟨S8x2048x2048, .f32⟩
  | 19 => ⟨S8x2048x2048, .f32⟩
  | 20 => ⟨S_, .f32⟩
  | 21 => ⟨S8x2048x2048, .f32⟩
  | 22 => ⟨S8x2048x2048, .f32⟩
  | 23 => ⟨S_, .f32⟩
  | 24 => ⟨S8x2048, .f32⟩
  | 25 => ⟨S8x2048x1, .f32⟩
  | 26 => ⟨S8x2048x1, .f32⟩
  | 27 => ⟨S_, .f32⟩
  | 28 => ⟨S8x2048x1, .f32⟩
  | 29 => ⟨S8x2048x1, .i1⟩
  | 30 => ⟨S_, .f32⟩
  | 31 => ⟨S8x2048x1, .f32⟩
  | 32 => ⟨S8x2048x1, .f32⟩
  | 33 => ⟨S8x2048x2048, .f32⟩
  | 34 => ⟨S8x2048x2048, .f32⟩
  | 35 => ⟨S8x2048x2048, .f32⟩
  | 36 => ⟨S8x2048x2048, .f32⟩
  | 37 => ⟨S8x2048x2048, .f32⟩
  | 38 => ⟨S_, .f32⟩
  | 39 => ⟨S8x2048, .f32⟩
  | 40 => ⟨S8x2048x1, .f32⟩
  | 41 => ⟨S_, .f32⟩
  | 42 => ⟨S8x2048x1, .f32⟩
  | 43 => ⟨S8x2048x1, .i1⟩
  | 44 => ⟨S_, .f32⟩
  | 45 => ⟨S8x2048x1, .f32⟩
  | 46 => ⟨S8x2048x1, .f32⟩
  | 47 => ⟨S8x2048x2048, .f32⟩
  | 48 => ⟨S8x2048x2048, .f32⟩
  | 49 => ⟨S_, .f32⟩
  | 50 => ⟨S8x2048x2048, .f32⟩
  | 51 => ⟨S8x2048x2048, .f32⟩
  | 52 => ⟨S_, .f32⟩
  | 53 => ⟨S8x2048x2048, .f32⟩
  | 54 => ⟨S8x2048x2048, .f32⟩
  | 55 => ⟨S_, .f32⟩
  | 56 => ⟨S8x2048, .f32⟩
  | 57 => ⟨S8x1x2048, .f32⟩
  | 58 => ⟨S8x1x2048, .f32⟩
  | 59 => ⟨S_, .f32⟩
  | 60 => ⟨S8x1x2048, .f32⟩
  | 61 => ⟨S8x1x2048, .i1⟩
  | 62 => ⟨S_, .f32⟩
  | 63 => ⟨S8x1x2048, .f32⟩
  | 64 => ⟨S8x1x2048, .f32⟩
  | 65 => ⟨S8x2048x2048, .f32⟩
  | 66 => ⟨S8x2048x2048, .f32⟩
  | 67 => ⟨S8x2048x2048, .f32⟩
  | 68 => ⟨S8x2048x2048, .f32⟩
  | 69 => ⟨S8x2048x2048, .f32⟩
  | 70 => ⟨S_, .f32⟩
  | 71 => ⟨S8x2048, .f32⟩
  | 72 => ⟨S8x1x2048, .f32⟩
  | 73 => ⟨S_, .f32⟩
  | 74 => ⟨S8x1x2048, .f32⟩
  | 75 => ⟨S8x1x2048, .i1⟩
  | 76 => ⟨S_, .f32⟩
  | 77 => ⟨S8x1x2048, .f32⟩
  | 78 => ⟨S8x1x2048, .f32⟩
  | 79 => ⟨S8x2048x2048, .f32⟩
  | 80 => ⟨S8x2048x2048, .f32⟩
  | 81 => ⟨S_, .f32⟩
  | 82 => ⟨S8x2048x2048, .f32⟩
  | 83 => ⟨S8x2048x2048, .f32⟩
  | 84 => ⟨S_, .f32⟩
  | 85 => ⟨S8x2048x2048, .f32⟩
  | 86 => ⟨S8x2048x2048, .f32⟩
  | 87 => ⟨S_, .f32⟩
  | 88 => ⟨S8x2048, .f32⟩
  | 89 => ⟨S8x2048x1, .f32⟩
  | 90 => ⟨S8x2048x1, .f32⟩
  | 91 => ⟨S_, .f32⟩
  | 92 => ⟨S8x2048x1, .f32⟩
  | 93 => ⟨S8x2048x1, .i1⟩
  | 94 => ⟨S_, .f32⟩
  | 95 => ⟨S8x2048x1, .f32⟩
  | 96 => ⟨S8x2048x1, .f32⟩
  | 97 => ⟨S8x2048x2048, .f32⟩
  | 98 => ⟨S8x2048x2048, .f32⟩
  | 99 => ⟨S8x2048x2048, .f32⟩
  | 100 => ⟨S8x2048x2048, .f32⟩
  | 101 => ⟨S8x2048x2048, .f32⟩
  | 102 => ⟨S_, .f32⟩
  | 103 => ⟨S8x2048, .f32⟩
  | 104 => ⟨S8x2048x1, .f32⟩
  | 105 => ⟨S_, .f32⟩
  | 106 => ⟨S8x2048x1, .f32⟩
  | 107 => ⟨S8x2048x1, .i1⟩
  | 108 => ⟨S_, .f32⟩
  | 109 => ⟨S8x2048x1, .f32⟩
  | 110 => ⟨S8x2048x1, .f32⟩
  | 111 => ⟨S8x2048x2048, .f32⟩
  | 112 => ⟨S8x2048x2048, .f32⟩
  | 113 => ⟨S_, .f32⟩
  | 114 => ⟨S8x2048x2048, .f32⟩
  | 115 => ⟨S8x2048x2048, .f32⟩
  | 116 => ⟨S_, .f32⟩
  | 117 => ⟨S8x2048x2048, .f32⟩
  | 118 => ⟨S8x2048x2048, .f32⟩
  | 119 => ⟨S_, .f32⟩
  | 120 => ⟨S8x2048, .f32⟩
  | 121 => ⟨S8x1x2048, .f32⟩
  | 122 => ⟨S8x1x2048, .f32⟩
  | 123 => ⟨S_, .f32⟩
  | 124 => ⟨S8x1x2048, .f32⟩
  | 125 => ⟨S8x1x2048, .i1⟩
  | 126 => ⟨S_, .f32⟩
  | 127 => ⟨S8x1x2048, .f32⟩
  | _ => ⟨S8x2048x2048, .f32⟩

abbrev hbmTy0_2 (i : Nat) : BufTy := match i % 128 with
  | 0 => ⟨S8x1x2048, .f32⟩
  | 1 => ⟨S8x2048x2048, .f32⟩
  | 2 => ⟨S8x2048x2048, .f32⟩
  | 3 => ⟨S8x2048x2048, .f32⟩
  | 4 => ⟨S8x2048x2048, .f32⟩
  | 5 => ⟨S8x2048x2048, .f32⟩
  | 6 => ⟨S_, .f32⟩
  | 7 => ⟨S8x2048, .f32⟩
  | 8 => ⟨S8x1x2048, .f32⟩
  | 9 => ⟨S_, .f32⟩
  | 10 => ⟨S8x1x2048, .f32⟩
  | 11 => ⟨S8x1x2048, .i1⟩
  | 12 => ⟨S_, .f32⟩
  | 13 => ⟨S8x1x2048, .f32⟩
  | 14 => ⟨S8x1x2048, .f32⟩
  | 15 => ⟨S8x2048x2048, .f32⟩
  | 16 => ⟨S8x2048x2048, .f32⟩
  | 17 => ⟨S_, .f32⟩
  | 18 => ⟨S8x2048x2048, .f32⟩
  | 19 => ⟨S8x2048x2048, .f32⟩
  | 20 => ⟨S_, .f32⟩
  | 21 => ⟨S8x2048x2048, .f32⟩
  | 22 => ⟨S8x2048x2048, .f32⟩
  | 23 => ⟨S_, .f32⟩
  | 24 => ⟨S8x2048, .f32⟩
  | 25 => ⟨S8x2048x1, .f32⟩
  | 26 => ⟨S8x2048x1, .f32⟩
  | 27 => ⟨S_, .f32⟩
  | 28 => ⟨S8x2048x1, .f32⟩
  | 29 => ⟨S8x2048x1, .i1⟩
  | 30 => ⟨S_, .f32⟩
  | 31 => ⟨S8x2048x1, .f32⟩
  | 32 => ⟨S8x2048x1, .f32⟩
  | 33 => ⟨S8x2048x2048, .f32⟩
  | 34 => ⟨S8x2048x2048, .f32⟩
  | 35 => ⟨S8x2048x2048, .f32⟩
  | 36 => ⟨S8x2048x2048, .f32⟩
  | 37 => ⟨S8x2048x2048, .f32⟩
  | 38 => ⟨S_, .f32⟩
  | 39 => ⟨S8x2048, .f32⟩
  | 40 => ⟨S8x2048x1, .f32⟩
  | 41 => ⟨S_, .f32⟩
  | 42 => ⟨S8x2048x1, .f32⟩
  | 43 => ⟨S8x2048x1, .i1⟩
  | 44 => ⟨S_, .f32⟩
  | 45 => ⟨S8x2048x1, .f32⟩
  | 46 => ⟨S8x2048x1, .f32⟩
  | 47 => ⟨S8x2048x2048, .f32⟩
  | 48 => ⟨S8x2048x2048, .f32⟩
  | 49 => ⟨S_, .f32⟩
  | 50 => ⟨S8x2048x2048, .f32⟩
  | 51 => ⟨S8x2048x2048, .f32⟩
  | 52 => ⟨S_, .f32⟩
  | 53 => ⟨S8x2048x2048, .f32⟩
  | 54 => ⟨S8x2048x2048, .f32⟩
  | 55 => ⟨S_, .f32⟩
  | 56 => ⟨S8x2048, .f32⟩
  | 57 => ⟨S8x1x2048, .f32⟩
  | 58 => ⟨S8x1x2048, .f32⟩
  | 59 => ⟨S_, .f32⟩
  | 60 => ⟨S8x1x2048, .f32⟩
  | 61 => ⟨S8x1x2048, .i1⟩
  | 62 => ⟨S_, .f32⟩
  | 63 => ⟨S8x1x2048, .f32⟩
  | 64 => ⟨S8x1x2048, .f32⟩
  | 65 => ⟨S8x2048x2048, .f32⟩
  | 66 => ⟨S8x2048x2048, .f32⟩
  | 67 => ⟨S8x2048x2048, .f32⟩
  | 68 => ⟨S8x2048x2048, .f32⟩
  | 69 => ⟨S8x2048x2048, .f32⟩
  | 70 => ⟨S_, .f32⟩
  | 71 => ⟨S8x2048, .f32⟩
  | 72 => ⟨S8x1x2048, .f32⟩
  | 73 => ⟨S_, .f32⟩
  | 74 => ⟨S8x1x2048, .f32⟩
  | 75 => ⟨S8x1x2048, .i1⟩
  | 76 => ⟨S_, .f32⟩
  | 77 => ⟨S8x1x2048, .f32⟩
  | 78 => ⟨S8x1x2048, .f32⟩
  | 79 => ⟨S8x2048x2048, .f32⟩
  | 80 => ⟨S8x2048x2048, .f32⟩
  | 81 => ⟨S_, .f32⟩
  | 82 => ⟨S8x2048x2048, .f32⟩
  | 83 => ⟨S8x2048x2048, .f32⟩
  | 84 => ⟨S_, .f32⟩
  | 85 => ⟨S8x2048x2048, .f32⟩
  | 86 => ⟨S8x2048x2048, .f32⟩
  | _ => ⟨S8x2048x2048, .f32⟩

abbrev hbmTy (i : Nat) : BufTy := match i / 128 with
  | 0 => hbmTy0_0 i
  | 1 => hbmTy0_1 i
  | 2 => hbmTy0_2 i
  | _ => ⟨S8x2048x2048, .f32⟩

abbrev bufTy : (tb : Table) → Fin (tcTables nBuf tb) → BufTy
  | .hbm, ⟨i, _⟩ => hbmTy i
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_v14 : Ref sig .tc := ⟨.hbm, 18, rfl⟩
abbrev main_v15 : Ref sig .tc := ⟨.hbm, 19, rfl⟩
abbrev main_cst_0 : Ref sig .tc := ⟨.hbm, 20, rfl⟩
abbrev main_call0_v0 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_4 : Ref sig .tc := ⟨.hbm, 38, rfl⟩
abbrev main_v29 : Ref sig .tc := ⟨.hbm, 39, rfl⟩
abbrev main_v30 : Ref sig .tc := ⟨.hbm, 40, rfl⟩
abbrev main_cst_5 : Ref sig .tc := ⟨.hbm, 41, rfl⟩
abbrev main_v31 : Ref sig .tc := ⟨.hbm, 42, rfl⟩
abbrev main_v32 : Ref sig .tc := ⟨.hbm, 43, rfl⟩
abbrev main_cst_6 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_7 : Ref sig .tc := ⟨.hbm, 49, rfl⟩
abbrev main_v37 : Ref sig .tc := ⟨.hbm, 50, rfl⟩
abbrev main_v38 : Ref sig .tc := ⟨.hbm, 51, rfl⟩
abbrev main_cst_8 : Ref sig .tc := ⟨.hbm, 52, rfl⟩
abbrev main_call4_v0 : Ref sig .tc := ⟨.hbm, 53, rfl⟩
abbrev main_v39 : Ref sig .tc := ⟨.hbm, 54, rfl⟩
abbrev main_cst_9 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_10 : Ref sig .tc := ⟨.hbm, 59, rfl⟩
abbrev main_v43 : Ref sig .tc := ⟨.hbm, 60, rfl⟩
abbrev main_v44 : Ref sig .tc := ⟨.hbm, 61, rfl⟩
abbrev main_cst_11 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_12 : Ref sig .tc := ⟨.hbm, 70, rfl⟩
abbrev main_v52 : Ref sig .tc := ⟨.hbm, 71, rfl⟩
abbrev main_v53 : Ref sig .tc := ⟨.hbm, 72, rfl⟩
abbrev main_cst_13 : Ref sig .tc := ⟨.hbm, 73, rfl⟩
abbrev main_v54 : Ref sig .tc := ⟨.hbm, 74, rfl⟩
abbrev main_v55 : Ref sig .tc := ⟨.hbm, 75, rfl⟩
abbrev main_cst_14 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_15 : Ref sig .tc := ⟨.hbm, 81, rfl⟩
abbrev main_v60 : Ref sig .tc := ⟨.hbm, 82, rfl⟩
abbrev main_v61 : Ref sig .tc := ⟨.hbm, 83, rfl⟩
abbrev main_cst_16 : Ref sig .tc := ⟨.hbm, 84, rfl⟩
abbrev main_call8_v0 : Ref sig .tc := ⟨.hbm, 85, rfl⟩
abbrev main_v62 : Ref sig .tc := ⟨.hbm, 86, rfl⟩
abbrev main_cst_17 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_18 : Ref sig .tc := ⟨.hbm, 91, rfl⟩
abbrev main_v66 : Ref sig .tc := ⟨.hbm, 92, rfl⟩
abbrev main_v67 : Ref sig .tc := ⟨.hbm, 93, rfl⟩
abbrev main_cst_19 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_20 : Ref sig .tc := ⟨.hbm, 102, rfl⟩
abbrev main_v75 : Ref sig .tc := ⟨.hbm, 103, rfl⟩
abbrev main_v76 : Ref sig .tc := ⟨.hbm, 104, rfl⟩
abbrev main_cst_21 : Ref sig .tc := ⟨.hbm, 105, rfl⟩
abbrev main_v77 : Ref sig .tc := ⟨.hbm, 106, rfl⟩
abbrev main_v78 : Ref sig .tc := ⟨.hbm, 107, rfl⟩
abbrev main_cst_22 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_cst_23 : Ref sig .tc := ⟨.hbm, 113, rfl⟩
abbrev main_v83 : Ref sig .tc := ⟨.hbm, 114, rfl⟩
abbrev main_v84 : Ref sig .tc := ⟨.hbm, 115, rfl⟩
abbrev main_cst_24 : Ref sig .tc := ⟨.hbm, 116, rfl⟩
abbrev main_call12_v0 : Ref sig .tc := ⟨.hbm, 117, rfl⟩
abbrev main_v85 : Ref sig .tc := ⟨.hbm, 118, rfl⟩
abbrev main_cst_25 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_cst_26 : Ref sig .tc := ⟨.hbm, 123, rfl⟩
abbrev main_v89 : Ref sig .tc := ⟨.hbm, 124, rfl⟩
abbrev main_v90 : Ref sig .tc := ⟨.hbm, 125, rfl⟩
abbrev main_cst_27 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_cst_28 : Ref sig .tc := ⟨.hbm, 134, rfl⟩
abbrev main_v98 : Ref sig .tc := ⟨.hbm, 135, rfl⟩
abbrev main_v99 : Ref sig .tc := ⟨.hbm, 136, rfl⟩
abbrev main_cst_29 : Ref sig .tc := ⟨.hbm, 137, rfl⟩
abbrev main_v100 : Ref sig .tc := ⟨.hbm, 138, rfl⟩
abbrev main_v101 : Ref sig .tc := ⟨.hbm, 139, rfl⟩
abbrev main_cst_30 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_cst_31 : Ref sig .tc := ⟨.hbm, 145, rfl⟩
abbrev main_v106 : Ref sig .tc := ⟨.hbm, 146, rfl⟩
abbrev main_v107 : Ref sig .tc := ⟨.hbm, 147, rfl⟩
abbrev main_cst_32 : Ref sig .tc := ⟨.hbm, 148, rfl⟩
abbrev main_call16_v0 : Ref sig .tc := ⟨.hbm, 149, rfl⟩
abbrev main_v108 : Ref sig .tc := ⟨.hbm, 150, rfl⟩
abbrev main_cst_33 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_cst_34 : Ref sig .tc := ⟨.hbm, 155, rfl⟩
abbrev main_v112 : Ref sig .tc := ⟨.hbm, 156, rfl⟩
abbrev main_v113 : Ref sig .tc := ⟨.hbm, 157, rfl⟩
abbrev main_cst_35 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_cst_36 : Ref sig .tc := ⟨.hbm, 166, rfl⟩
abbrev main_v121 : Ref sig .tc := ⟨.hbm, 167, rfl⟩
abbrev main_v122 : Ref sig .tc := ⟨.hbm, 168, rfl⟩
abbrev main_cst_37 : Ref sig .tc := ⟨.hbm, 169, rfl⟩
abbrev main_v123 : Ref sig .tc := ⟨.hbm, 170, rfl⟩
abbrev main_v124 : Ref sig .tc := ⟨.hbm, 171, rfl⟩
abbrev main_cst_38 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_cst_39 : Ref sig .tc := ⟨.hbm, 177, rfl⟩
abbrev main_v129 : Ref sig .tc := ⟨.hbm, 178, rfl⟩
abbrev main_v130 : Ref sig .tc := ⟨.hbm, 179, rfl⟩
abbrev main_cst_40 : Ref sig .tc := ⟨.hbm, 180, rfl⟩
abbrev main_call20_v0 : Ref sig .tc := ⟨.hbm, 181, rfl⟩
abbrev main_v131 : Ref sig .tc := ⟨.hbm, 182, rfl⟩
abbrev main_cst_41 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_cst_42 : Ref sig .tc := ⟨.hbm, 187, rfl⟩
abbrev main_v135 : Ref sig .tc := ⟨.hbm, 188, rfl⟩
abbrev main_v136 : Ref sig .tc := ⟨.hbm, 189, rfl⟩
abbrev main_cst_43 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩
abbrev main_cst_44 : Ref sig .tc := ⟨.hbm, 198, rfl⟩
abbrev main_v144 : Ref sig .tc := ⟨.hbm, 199, rfl⟩
abbrev main_v145 : Ref sig .tc := ⟨.hbm, 200, rfl⟩
abbrev main_cst_45 : Ref sig .tc := ⟨.hbm, 201, rfl⟩
abbrev main_v146 : Ref sig .tc := ⟨.hbm, 202, rfl⟩
abbrev main_v147 : Ref sig .tc := ⟨.hbm, 203, rfl⟩
abbrev main_cst_46 : Ref sig .tc := ⟨.hbm, 204, rfl⟩
abbrev main_v148 : Ref sig .tc := ⟨.hbm, 205, rfl⟩
abbrev main_v149 : Ref sig .tc := ⟨.hbm, 206, rfl⟩
abbrev main_v150 : Ref sig .tc := ⟨.hbm, 207, rfl⟩
abbrev main_v151 : Ref sig .tc := ⟨.hbm, 208, rfl⟩
abbrev main_cst_47 : Ref sig .tc := ⟨.hbm, 209, rfl⟩
abbrev main_v152 : Ref sig .tc := ⟨.hbm, 210, rfl⟩
abbrev main_v153 : Ref sig .tc := ⟨.hbm, 211, rfl⟩
abbrev main_cst_48 : Ref sig .tc := ⟨.hbm, 212, rfl⟩
abbrev main_call24_v0 : Ref sig .tc := ⟨.hbm, 213, rfl⟩
abbrev main_v154 : Ref sig .tc := ⟨.hbm, 214, rfl⟩
abbrev main_cst_49 : Ref sig .tc := ⟨.hbm, 215, rfl⟩
abbrev main_v155 : Ref sig .tc := ⟨.hbm, 216, rfl⟩
abbrev main_v156 : Ref sig .tc := ⟨.hbm, 217, rfl⟩
abbrev main_v157 : Ref sig .tc := ⟨.hbm, 218, rfl⟩
abbrev main_cst_50 : Ref sig .tc := ⟨.hbm, 219, rfl⟩
abbrev main_v158 : Ref sig .tc := ⟨.hbm, 220, rfl⟩
abbrev main_v159 : Ref sig .tc := ⟨.hbm, 221, rfl⟩
abbrev main_cst_51 : Ref sig .tc := ⟨.hbm, 222, rfl⟩
abbrev main_v160 : Ref sig .tc := ⟨.hbm, 223, rfl⟩
abbrev main_v161 : Ref sig .tc := ⟨.hbm, 224, rfl⟩
abbrev main_v162 : Ref sig .tc := ⟨.hbm, 225, rfl⟩
abbrev main_v163 : Ref sig .tc := ⟨.hbm, 226, rfl⟩
abbrev main_v164 : Ref sig .tc := ⟨.hbm, 227, rfl⟩
abbrev main_v165 : Ref sig .tc := ⟨.hbm, 228, rfl⟩
abbrev main_v166 : Ref sig .tc := ⟨.hbm, 229, rfl⟩
abbrev main_cst_52 : Ref sig .tc := ⟨.hbm, 230, rfl⟩
abbrev main_v167 : Ref sig .tc := ⟨.hbm, 231, rfl⟩
abbrev main_v168 : Ref sig .tc := ⟨.hbm, 232, rfl⟩
abbrev main_cst_53 : Ref sig .tc := ⟨.hbm, 233, rfl⟩
abbrev main_v169 : Ref sig .tc := ⟨.hbm, 234, rfl⟩
abbrev main_v170 : Ref sig .tc := ⟨.hbm, 235, rfl⟩
abbrev main_cst_54 : Ref sig .tc := ⟨.hbm, 236, rfl⟩
abbrev main_v171 : Ref sig .tc := ⟨.hbm, 237, rfl⟩
abbrev main_v172 : Ref sig .tc := ⟨.hbm, 238, rfl⟩
abbrev main_v173 : Ref sig .tc := ⟨.hbm, 239, rfl⟩
abbrev main_v174 : Ref sig .tc := ⟨.hbm, 240, rfl⟩
abbrev main_cst_55 : Ref sig .tc := ⟨.hbm, 241, rfl⟩
abbrev main_v175 : Ref sig .tc := ⟨.hbm, 242, rfl⟩
abbrev main_v176 : Ref sig .tc := ⟨.hbm, 243, rfl⟩
abbrev main_cst_56 : Ref sig .tc := ⟨.hbm, 244, rfl⟩
abbrev main_call28_v0 : Ref sig .tc := ⟨.hbm, 245, rfl⟩
abbrev main_v177 : Ref sig .tc := ⟨.hbm, 246, rfl⟩
abbrev main_cst_57 : Ref sig .tc := ⟨.hbm, 247, rfl⟩
abbrev main_v178 : Ref sig .tc := ⟨.hbm, 248, rfl⟩
abbrev main_v179 : Ref sig .tc := ⟨.hbm, 249, rfl⟩
abbrev main_v180 : Ref sig .tc := ⟨.hbm, 250, rfl⟩
abbrev main_cst_58 : Ref sig .tc := ⟨.hbm, 251, rfl⟩
abbrev main_v181 : Ref sig .tc := ⟨.hbm, 252, rfl⟩
abbrev main_v182 : Ref sig .tc := ⟨.hbm, 253, rfl⟩
abbrev main_cst_59 : Ref sig .tc := ⟨.hbm, 254, rfl⟩
abbrev main_v183 : Ref sig .tc := ⟨.hbm, 255, rfl⟩
abbrev main_v184 : Ref sig .tc := ⟨.hbm, 256, rfl⟩
abbrev main_v185 : Ref sig .tc := ⟨.hbm, 257, rfl⟩
abbrev main_v186 : Ref sig .tc := ⟨.hbm, 258, rfl⟩
abbrev main_v187 : Ref sig .tc := ⟨.hbm, 259, rfl⟩
abbrev main_v188 : Ref sig .tc := ⟨.hbm, 260, rfl⟩
abbrev main_v189 : Ref sig .tc := ⟨.hbm, 261, rfl⟩
abbrev main_cst_60 : Ref sig .tc := ⟨.hbm, 262, rfl⟩
abbrev main_v190 : Ref sig .tc := ⟨.hbm, 263, rfl⟩
abbrev main_v191 : Ref sig .tc := ⟨.hbm, 264, rfl⟩
abbrev main_cst_61 : Ref sig .tc := ⟨.hbm, 265, rfl⟩
abbrev main_v192 : Ref sig .tc := ⟨.hbm, 266, rfl⟩
abbrev main_v193 : Ref sig .tc := ⟨.hbm, 267, rfl⟩
abbrev main_cst_62 : Ref sig .tc := ⟨.hbm, 268, rfl⟩
abbrev main_v194 : Ref sig .tc := ⟨.hbm, 269, rfl⟩
abbrev main_v195 : Ref sig .tc := ⟨.hbm, 270, rfl⟩
abbrev main_v196 : Ref sig .tc := ⟨.hbm, 271, rfl⟩
abbrev main_v197 : Ref sig .tc := ⟨.hbm, 272, rfl⟩
abbrev main_cst_63 : Ref sig .tc := ⟨.hbm, 273, rfl⟩
abbrev main_v198 : Ref sig .tc := ⟨.hbm, 274, rfl⟩
abbrev main_v199 : Ref sig .tc := ⟨.hbm, 275, rfl⟩
abbrev main_cst_64 : Ref sig .tc := ⟨.hbm, 276, rfl⟩
abbrev main_call32_v0 : Ref sig .tc := ⟨.hbm, 277, rfl⟩
abbrev main_v200 : Ref sig .tc := ⟨.hbm, 278, rfl⟩
abbrev main_cst_65 : Ref sig .tc := ⟨.hbm, 279, rfl⟩
abbrev main_v201 : Ref sig .tc := ⟨.hbm, 280, rfl⟩
abbrev main_v202 : Ref sig .tc := ⟨.hbm, 281, rfl⟩
abbrev main_v203 : Ref sig .tc := ⟨.hbm, 282, rfl⟩
abbrev main_cst_66 : Ref sig .tc := ⟨.hbm, 283, rfl⟩
abbrev main_v204 : Ref sig .tc := ⟨.hbm, 284, rfl⟩
abbrev main_v205 : Ref sig .tc := ⟨.hbm, 285, rfl⟩
abbrev main_cst_67 : Ref sig .tc := ⟨.hbm, 286, rfl⟩
abbrev main_v206 : Ref sig .tc := ⟨.hbm, 287, rfl⟩
abbrev main_v207 : Ref sig .tc := ⟨.hbm, 288, rfl⟩
abbrev main_v208 : Ref sig .tc := ⟨.hbm, 289, rfl⟩
abbrev main_v209 : Ref sig .tc := ⟨.hbm, 290, rfl⟩
abbrev main_v210 : Ref sig .tc := ⟨.hbm, 291, rfl⟩
abbrev main_v211 : Ref sig .tc := ⟨.hbm, 292, rfl⟩
abbrev main_v212 : Ref sig .tc := ⟨.hbm, 293, rfl⟩
abbrev main_cst_68 : Ref sig .tc := ⟨.hbm, 294, rfl⟩
abbrev main_v213 : Ref sig .tc := ⟨.hbm, 295, rfl⟩
abbrev main_v214 : Ref sig .tc := ⟨.hbm, 296, rfl⟩
abbrev main_cst_69 : Ref sig .tc := ⟨.hbm, 297, rfl⟩
abbrev main_v215 : Ref sig .tc := ⟨.hbm, 298, rfl⟩
abbrev main_v216 : Ref sig .tc := ⟨.hbm, 299, rfl⟩
abbrev main_cst_70 : Ref sig .tc := ⟨.hbm, 300, rfl⟩
abbrev main_v217 : Ref sig .tc := ⟨.hbm, 301, rfl⟩
abbrev main_v218 : Ref sig .tc := ⟨.hbm, 302, rfl⟩
abbrev main_v219 : Ref sig .tc := ⟨.hbm, 303, rfl⟩
abbrev main_v220 : Ref sig .tc := ⟨.hbm, 304, rfl⟩
abbrev main_cst_71 : Ref sig .tc := ⟨.hbm, 305, rfl⟩
abbrev main_v221 : Ref sig .tc := ⟨.hbm, 306, rfl⟩
abbrev main_v222 : Ref sig .tc := ⟨.hbm, 307, rfl⟩
abbrev main_cst_72 : Ref sig .tc := ⟨.hbm, 308, rfl⟩
abbrev main_call36_v0 : Ref sig .tc := ⟨.hbm, 309, rfl⟩
abbrev main_v223 : Ref sig .tc := ⟨.hbm, 310, rfl⟩
abbrev main_cst_73 : Ref sig .tc := ⟨.hbm, 311, rfl⟩
abbrev main_v224 : Ref sig .tc := ⟨.hbm, 312, rfl⟩
abbrev main_v225 : Ref sig .tc := ⟨.hbm, 313, rfl⟩
abbrev main_v226 : Ref sig .tc := ⟨.hbm, 314, rfl⟩
abbrev main_cst_74 : Ref sig .tc := ⟨.hbm, 315, rfl⟩
abbrev main_v227 : Ref sig .tc := ⟨.hbm, 316, rfl⟩
abbrev main_v228 : Ref sig .tc := ⟨.hbm, 317, rfl⟩
abbrev main_cst_75 : Ref sig .tc := ⟨.hbm, 318, rfl⟩
abbrev main_v229 : Ref sig .tc := ⟨.hbm, 319, rfl⟩
abbrev main_v230 : Ref sig .tc := ⟨.hbm, 320, rfl⟩
abbrev main_v231 : Ref sig .tc := ⟨.hbm, 321, rfl⟩
abbrev main_v232 : Ref sig .tc := ⟨.hbm, 322, rfl⟩
abbrev main_v233 : Ref sig .tc := ⟨.hbm, 323, rfl⟩
abbrev main_v234 : Ref sig .tc := ⟨.hbm, 324, rfl⟩
abbrev main_v235 : Ref sig .tc := ⟨.hbm, 325, rfl⟩
abbrev main_cst_76 : Ref sig .tc := ⟨.hbm, 326, rfl⟩
abbrev main_v236 : Ref sig .tc := ⟨.hbm, 327, rfl⟩
abbrev main_v237 : Ref sig .tc := ⟨.hbm, 328, rfl⟩
abbrev main_cst_77 : Ref sig .tc := ⟨.hbm, 329, rfl⟩
abbrev main_v238 : Ref sig .tc := ⟨.hbm, 330, rfl⟩
abbrev main_v239 : Ref sig .tc := ⟨.hbm, 331, rfl⟩
abbrev main_cst_78 : Ref sig .tc := ⟨.hbm, 332, rfl⟩
abbrev main_v240 : Ref sig .tc := ⟨.hbm, 333, rfl⟩
abbrev main_v241 : Ref sig .tc := ⟨.hbm, 334, rfl⟩
abbrev main_v242 : Ref sig .tc := ⟨.hbm, 335, rfl⟩
abbrev main_v243 : Ref sig .tc := ⟨.hbm, 336, rfl⟩
abbrev main_cst_79 : Ref sig .tc := ⟨.hbm, 337, rfl⟩
abbrev main_v244 : Ref sig .tc := ⟨.hbm, 338, rfl⟩
abbrev main_v245 : Ref sig .tc := ⟨.hbm, 339, rfl⟩
abbrev main_cst_80 : Ref sig .tc := ⟨.hbm, 340, rfl⟩
abbrev main_v246 : Ref sig .tc := ⟨.hbm, 341, rfl⟩
abbrev main_v247 : Ref sig .tc := ⟨.hbm, 342, rfl⟩

abbrev nD : Nat := 1
abbrev τ : Topo := Topo.v7x

variable {F : FTy → Type} [FloatOps F]
-- ==== Proof.Stages.lean ====
module

public import proofs.«01_k».proof.Proof.Gen.KernelIdeal.Skeleton
public import Idealize.ShloMosaic.Lib.LoopRemainder

@[expose] public section

noncomputable section

/-! The kernel's body for one sample as a short list of stages: bring the sample in, clear the strips past the last
    agent's, one biased row softmax, five column passes with a row pass between each two, the last division, and the
    copy out. Every pass over the live strips is one program, `sweep`, at its own strip function. -/

namespace Cert.KernelIdeal.Sinkhorn

open Idealize Idealize.ShloMosaic Idealize.ShloMosaic.TcCoe Idealize.SL Idealize.SL.Sem Cert.KernelIdeal.Gen

universe v

variable {F : FTy → Type} [FloatOps F]

/-- The remainder loop that follows each counted loop never runs: it returns what it starts from. -/
theorem remainder_ret {E : Type → Type v} {σ : Type} (a x : BitVec 32)
    (hok : Scf.OK (Scalar.addi a (Scalar.muli (Scalar.divsi x 1#32) 1#32)) (Scalar.addi a x) 1#32) (init : σ)
    (body : Fin (Scf.trips (Scalar.addi a (Scalar.muli (Scalar.divsi x 1#32) 1#32)) (Scalar.addi a x) 1#32) → σ → Prog E σ) :
    Scf.for _ _ _ hok init body = pure init := Scf.for_rem_eq a x hok init body

/-- One trip of a pass: read a strip, rewrite it by `w`, and carry on with `y`, both from what was read. -/
def strip {σ : Type} (v1 : Elt F .i32) (hw : k0_chk1 v1) (xs : Memref sig .tc .vmem S2048x2048 .f32)
    (t : Fin (k0_t3_loop v1).trips) (w : Vec F S256x2048 .f32 → FVec F S256x2048 .f32) (y : Vec F S256x2048 .f32 → σ) :
    Prog (TpuEff nD τ sig (Elt F) Λ₀ .tc) σ := do
  let v : Vec F S256x2048 .f32 ← Prog.lift (.load xs (Rect.unit (s := S2048x2048) (k0_off5 v1 t) S256x2048.size (k0_off5_inb v1 hw t)).toLoadRect (View.loadsAt_vmem h_S256x2048))
  let _ : Vec F S256x2048 .f32 ← Prog.lift (.load xs (Rect.unit (s := S2048x2048) (k0_off5 v1 t) S256x2048.size (k0_off5_inb v1 hw t)).toLoadRect (View.loadsAt_vmem h_S256x2048))
  Prog.lift (.store xs (Rect.unit (s := S2048x2048) (k0_off5 v1 t) S256x2048.size (k0_off5_inb v1 hw t)) (w v) Finset.univ (View.stores_vmem_bits_univ h_S256x2048 rfl) (.inl rfl))
  pure (y v)

/-- A pass over the live strips in order, carrying a value from strip to strip. -/
def sweep {σ : Type} (v1 : Elt F .i32) (hw : k0_chk1 v1) (xs : Memref sig .tc .vmem S2048x2048 .f32) (init : σ)
    (g : Fin (k0_t3_loop v1).trips → Vec F S256x2048 .f32 → FVec F S256x2048 .f32)
    (h : Fin (k0_t3_loop v1).trips → σ → Vec F S256x2048 .f32 → σ) : Prog (TpuEff nD τ sig (Elt F) Λ₀ .tc) σ :=
  Scf.Loop.for (k0_t3_loop v1) (k0_t3_ok v1 hw) init fun t acc => strip v1 hw xs t (g t) (h t acc)

/-- The strips from the first one past the agents to the last one are cleared. -/
def clear (v1 : Elt F .i32) (hw : k0_chk1 v1) (xs : Memref sig .tc .vmem S2048x2048 .f32) :
    Prog (TpuEff nD τ sig (Elt F) Λ₀ .tc) (BitVec 32) :=
  Scf.Loop.for (k0_t1_loop v1) (k0_t1_ok v1 hw) 0#32 fun t _ => do
    let _ : Vec F S256x2048 .f32 ← Prog.lift (.load xs (Rect.unit (s := S2048x2048) (k0_off3 v1 t) S256x2048.size (k0_off3_inb v1 hw t)).toLoadRect (View.loadsAt_vmem h_S256x2048))
    Prog.lift (.store xs (Rect.unit (s := S2048x2048) (k0_off3 v1 t) S256x2048.size (k0_off3_inb v1 hw t)) (k0_pay3 (F := F)) Finset.univ (View.stores_vmem_bits_univ h_S256x2048 rfl) (.inl rfl))
    pure 0#32

/-- The numbers `0 … 255` of a strip's rows. -/
abbrev rowIds : IVec S256x1 32 := iota .tc S256x1 32 [0] iota_S256x1_d0_w32

/-- A strip of the first, biased, row softmax. -/
abbrev firstG (v1 v3 : Elt F .i32) (t : Fin (k0_t3_loop v1).trips) (v : Vec F S256x2048 .f32) : FVec F S256x2048 .f32 :=
  k0_pay5 v1 (k0_pay1 v3) rowIds (Scalar.ofBits .f32 0x00000000#32) (Scalar.ofBits .f32 0xFF800000#32) (Scalar.ofBits .f32 0x3F800000#32) 0#32 1#32 t v

/-- A strip of a column pass: the masked exponentials, -/
abbrev colG (v1 v3 : Elt F .i32) (t : Fin (k0_t3_loop v1).trips) (v : Vec F S256x2048 .f32) : FVec F S256x2048 .f32 :=
  k0_pay9 v1 (k0_pay2 v3) rowIds t v

/-- and the column sums so far with the strip's added. -/
abbrev colH (v1 v3 : Elt F .i32) (t : Fin (k0_t3_loop v1).trips) (acc : FVec F S1x2048 .f32) (v : Vec F S256x2048 .f32) : FVec F S1x2048 .f32 :=
  k0_pay10 v1 (k0_pay2 v3) rowIds t acc v

/-- A strip of a row pass, from the column sums of the pass before it. -/
abbrev rowG (v1 v3 : Elt F .i32) (s : FVec F S1x2048 .f32) (t : Fin (k0_t3_loop v1).trips) (v : Vec F S256x2048 .f32) : FVec F S256x2048 .f32 :=
  k0_pay15 v1 (k0_pay2 v3) rowIds s t v

/-- A row pass, -/
def rowSweep (v1 v3 : Elt F .i32) (hw : k0_chk1 v1) (xs : Memref sig .tc .vmem S2048x2048 .f32) (s : FVec F S1x2048 .f32) :
    Prog (TpuEff nD τ sig (Elt F) Λ₀ .tc) (BitVec 32) :=
  sweep v1 hw xs 0#32 (rowG v1 v3 s) fun _ _ _ => 0#32

/-- a column pass, returning the column sums, -/
def colSweep (v1 v3 : Elt F .i32) (hw : k0_chk1 v1) (xs : Memref sig .tc .vmem S2048x2048 .f32) :
    Prog (TpuEff nD τ sig (Elt F) Λ₀ .tc) (FVec F S1x2048 .f32) :=
  sweep v1 hw xs (k0_pay7 (F := F)) (colG v1 v3) (colH v1 v3)

/-- the first row softmax, -/
def firstSweep (v1 v3 : Elt F .i32) (hw : k0_chk1 v1) (xs : Memref sig .tc .vmem S2048x2048 .f32) :
    Prog (TpuEff nD τ sig (Elt F) Λ₀ .tc) (BitVec 32) :=
  sweep v1 hw xs 0#32 (firstG v1 v3) fun _ _ _ => 0#32

/-- and the last division by the column sums. -/
def lastSweep (v1 : Elt F .i32) (hw : k0_chk1 v1) (xs : Memref sig .tc .vmem S2048x2048 .f32) (s : FVec F S1x2048 .f32) :
    Prog (TpuEff nD τ sig (Elt F) Λ₀ .tc) (BitVec 32) :=
  sweep v1 hw xs 0#32 (fun _ v => k0_pay55 s v) fun _ _ _ => 0#32

/-- All passes over a sample already in place. -/
def passes (v1 v3 : Elt F .i32) (hw : k0_chk1 v1) (xs : Memref sig .tc .vmem S2048x2048 .f32) :
    Prog (TpuEff nD τ sig (Elt F) Λ₀ .tc) PUnit := do
  let _ ← clear v1 hw xs
  let _ ← firstSweep v1 v3 hw xs
  let s1 ← colSweep v1 v3 hw xs
  let _ ← rowSweep v1 v3 hw xs s1
  let s2 ← colSweep v1 v3 hw xs
  let _ ← rowSweep v1 v3 hw xs s2
  let s3 ← colSweep v1 v3 hw xs
  let _ ← rowSweep v1 v3 hw xs s3
  let s4 ← colSweep v1 v3 hw xs
  let _ ← rowSweep v1 v3 hw xs s4
  let s5 ← colSweep v1 v3 hw xs
  let _ ← lastSweep v1 hw xs s5
  pure ⟨⟩

/-- Sample `i` of a stack of eight. -/
abbrev sampleRef (i : grid0.Coords) (m : Memref sig .tc .hbm S8x2048x2048 .f32) : Memref sig .tc .hbm S2048x2048 .f32 :=
  (m.slice (Rect.unit (s := S8x2048x2048) (k0_off2 i) S1x2048x2048.size (k0_off2_inb i)) (fun _ => rfl)).squeeze S2048x2048 squeezes_S1x2048x2048_S2048x2048

/-- The body for one sample: read the two counts, bring the sample in, run the passes, copy it out. -/
def stages (i : grid0.Coords) (arg1 : Memref sig .tc .smem S8 .i32) (arg2 : Memref sig .tc .smem S8 .i32)
    (arg3 arg4 : Memref sig .tc .hbm S8x2048x2048 .f32) (arg5 : Memref sig .tc .vmem S2048x2048 .f32) (harg5 : arg5.IsWhole)
    (arg6 arg7 : DmaSems sig S_) : Prog (TpuEff nD τ sig (Elt F) Λ₀ .tc) PUnit := do
  let v1 : Elt F .i32 ← smemLoad arg1 (Rect.unit (s := S8) (k0_off1 i) S1.size (k0_off1_inb i)) numel1_S1 rfl
  let hw ← Prog.lift (TpuEff.assume (k0_chk1 v1) (k0_chk1.dec v1))
  let v3 : Elt F .i32 ← smemLoad arg2 (Rect.unit (s := S8) (k0_off1 i) S1.size (k0_off1_inb i)) numel1_S1 rfl
  Prog.lift (.enqueueDma (sampleRef i arg3) (.here arg5) (.dma arg6.sem) ((View.wordExact_bits rfl).reshape _ _) harg5.wordExact ⟨Or.inl rfl, trivial⟩)
  Prog.lift (.waitDma2 arg6.sem (sampleRef i arg3) arg5 ((View.wordExact_bits rfl).reshape _ _) harg5.wordExact)
  passes v1 v3 hw.down arg5
  Prog.lift (.enqueueDma arg5 (.here (sampleRef i arg4)) (.dma arg7.sem) harg5.wordExact ((View.wordExact_bits rfl).reshape _ _) ⟨Or.inl rfl, trivial⟩)
  Prog.lift (.waitDma2 arg7.sem arg5 (sampleRef i arg4) harg5.wordExact ((View.wordExact_bits rfl).reshape _ _))
  pure ⟨⟩

set_option maxRecDepth 65536 in
set_option maxHeartbeats 0 in
/-- The printed body is its stages. -/
theorem body_eq_stages (i : grid0.Coords) (arg1 : Memref sig .tc .smem S8 .i32) (harg1 : arg1.IsWhole) (arg2 : Memref sig .tc .smem S8 .i32) (harg2 : arg2.IsWhole) (arg3 : Memref sig .tc .hbm S8x2048x2048 .f32) (harg3 : arg3.IsWhole) (arg4 : Memref sig .tc .hbm S8x2048x2048 .f32) (harg4 : arg4.IsWhole) (arg5 : Memref sig .tc .vmem S2048x2048 .f32) (harg5 : arg5.IsWhole) (arg6 : DmaSems sig S_) (arg7 : DmaSems sig S_) :
    cc0__sinkhorn_body (F := F) i arg1 harg1 arg2 harg2 arg3 harg3 arg4 harg4 arg5 harg5 arg6 arg7
      = stages i arg1 arg2 arg3 arg4 arg5 harg5 arg6 arg7 := by
  simp only [cc0__sinkhorn_body_eq_skeleton, cc0__sinkhorn_body_skel, k0_part1_eq_skeleton, k0_part1_skel, k0_part2_eq_skeleton, k0_part2_skel,
    k0_part3_eq_skeleton, k0_part3_skel, k0_part4_eq_skeleton, k0_part4_skel, stages, passes, bind_assoc, pure_bind,
    Scf.Loop.for, k0_t2_loop, k0_t4_loop, k0_t6_loop, k0_t8_loop, k0_t10_loop, k0_t12_loop, k0_t14_loop, k0_t16_loop, k0_t18_loop,
    k0_t20_loop, k0_t22_loop, k0_t24_loop, remainder_ret]
  rfl

end Cert.KernelIdeal.Sinkhorn
-- ==== Proof.Counts.lean ====
module

public import proofs.«01_k».proof.Proof.Stages

@[expose] public section

noncomputable section

/-! The number of live strips, and where each loop's strips lie. Everything the loops compute from the agent count
    passes through the number of 256-row strips that reach it, so each fact is one of nine cases. -/

namespace Cert.KernelIdeal.Sinkhorn

open Idealize Idealize.ShloMosaic Idealize.SL.Sem Cert.KernelIdeal.Gen

/-- The number of strips that reach agent count `v`, as the kernel computes it. -/
abbrev stripsWord (v : BitVec 32) : BitVec 32 := Scalar.divsi (Scalar.addi v 255#32) 256#32

/-- A count of the kernel's range. -/
def InRange (v : BitVec 32) : Prop := 0 ≤ v.toInt ∧ v.toInt < 2048

theorem toNat_lt (v : BitVec 32) (h : InRange v) : v.toNat < 2048 := by
  obtain ⟨h0, h1⟩ := h
  rw [BitVec.toInt_eq_toNat_bmod] at h0 h1
  simp only [Int.bmod] at h0 h1
  have := v.isLt
  omega

/-- The number of strips. -/
def strips (v : BitVec 32) : ℕ := (v.toNat + 255) / 256

theorem strips_lt (v : BitVec 32) (h : InRange v) : strips v < 9 := by
  have := toNat_lt v h
  unfold strips
  omega

theorem stripsWord_ofNat : ∀ n : Fin 2048, stripsWord (BitVec.ofNat 32 n.val) = BitVec.ofNat 32 ((n.val + 255) / 256) := by decide +kernel

theorem stripsWord_eq (v : BitVec 32) (h : InRange v) : stripsWord v = BitVec.ofNat 32 (strips v) := by
  have e := stripsWord_ofNat ⟨v.toNat, toNat_lt v h⟩
  unfold strips
  simpa only [BitVec.ofNat_toNat, BitVec.setWidth_eq] using e

/-- The passes run over the live strips, -/
theorem trips_sweep (v : BitVec 32) (h : InRange v) : (k0_t3_loop v).trips = strips v := by
  have key : ∀ k : Fin 9, Scf.trips (0#32) (Scalar.addi 0#32 (Scalar.muli (Scalar.divsi (Scalar.subi (BitVec.ofNat 32 k.val) 0#32) 1#32) 1#32)) 1#32 = k.val := by
    decide +kernel
  have := key ⟨strips v, strips_lt v h⟩
  rw [← stripsWord_eq v h] at this
  exact this

/-- and the clearing loop over the rest. -/
theorem trips_clear (v : BitVec 32) (h : InRange v) : (k0_t1_loop v).trips = 8 - strips v := by
  have key : ∀ k : Fin 9, Scf.trips (BitVec.ofNat 32 k.val) (Scalar.addi (BitVec.ofNat 32 k.val) (Scalar.muli (Scalar.divsi (Scalar.subi 8#32 (BitVec.ofNat 32 k.val)) 1#32) 1#32)) 1#32 = 8 - k.val := by
    decide +kernel
  have := key ⟨strips v, strips_lt v h⟩
  rw [← stripsWord_eq v h] at this
  exact this

/-- Trip `t` of a pass is at row `256 t`. -/
theorem off_sweep (v : BitVec 32) (h : InRange v) (t : Fin (k0_t3_loop v).trips) : k0_off5 v t = ![256 * t.val, 0] := by
  have key : ∀ k : Fin 9, (Scalar.indexCast (Scalar.muli (Scf.iv 0#32 1#32 k.val) 256#32) : Index).toNat = 256 * k.val := by decide +kernel
  have ht : t.val < 9 := lt_of_lt_of_le (lt_of_lt_of_eq t.2 (trips_sweep v h)) (strips_lt v h).le
  have := key ⟨t.val, ht⟩
  unfold k0_off5
  rw [← this]

/-- Trip `t` of the clearing loop is at row `256 (strips + t)`. -/
theorem off_clear (v : BitVec 32) (h : InRange v) (t : Fin (k0_t1_loop v).trips) : k0_off3 v t = ![256 * (strips v + t.val), 0] := by
  have key : ∀ k t : Fin 9, (Scalar.indexCast (Scalar.muli (Scf.iv (BitVec.ofNat 32 k.val) 1#32 t.val) 256#32) : Index).toNat = 256 * (k.val + t.val) := by decide +kernel
  have ht : t.val < 9 := lt_of_lt_of_le (lt_of_lt_of_eq t.2 (trips_clear v h)) (by omega)
  have := key ⟨strips v, strips_lt v h⟩ ⟨t.val, ht⟩
  rw [← stripsWord_eq v h] at this
  unfold k0_off3
  rw [← this]

/-- The passes' loops have a meaning, -/
theorem ok_sweep (v : BitVec 32) (h : InRange v) : (k0_t3_loop v).OK := by
  have key : ∀ k : Fin 9, Scf.OK (0#32) (Scalar.addi 0#32 (Scalar.muli (Scalar.divsi (Scalar.subi (BitVec.ofNat 32 k.val) 0#32) 1#32) 1#32)) 1#32 := by
    decide +kernel
  have := key ⟨strips v, strips_lt v h⟩
  rw [← stripsWord_eq v h] at this
  exact this

/-- as does the clearing loop. -/
theorem ok_clear (v : BitVec 32) (h : InRange v) : (k0_t1_loop v).OK := by
  have key : ∀ k : Fin 9, Scf.OK (BitVec.ofNat 32 k.val) (Scalar.addi (BitVec.ofNat 32 k.val) (Scalar.muli (Scalar.divsi (Scalar.subi 8#32 (BitVec.ofNat 32 k.val)) 1#32) 1#32)) 1#32 := by
    decide +kernel
  have := key ⟨strips v, strips_lt v h⟩
  rw [← stripsWord_eq v h] at this
  exact this

/-- A strip of a pass lies inside the sample, -/
theorem inb_sweep (v : BitVec 32) (h : InRange v) (t : Fin (k0_t3_loop v).trips) (a : Fin 2) :
    k0_off5 v t a + S256x2048.size a ≤ S2048x2048.size a := by
  have ht : t.val < 8 := lt_of_lt_of_le (lt_of_lt_of_eq t.2 (trips_sweep v h)) (Nat.lt_succ_iff.mp (strips_lt v h))
  rw [off_sweep v h t]
  match a with
  | 0 => show 256 * t.val + 256 ≤ 2048; omega
  | 1 => exact le_refl 2048

/-- and so does a strip of the clearing loop. -/
theorem inb_clear (v : BitVec 32) (h : InRange v) (t : Fin (k0_t1_loop v).trips) (a : Fin 2) :
    k0_off3 v t a + S256x2048.size a ≤ S2048x2048.size a := by
  have ht : t.val < 8 - strips v := lt_of_lt_of_eq t.2 (trips_clear v h)
  rw [off_clear v h t]
  match a with
  | 0 => show 256 * (strips v + t.val) + 256 ≤ 2048; omega
  | 1 => exact le_refl 2048

/-- The remainder loops have a meaning and no trips. -/
theorem ok_rem (v : BitVec 32) : (k0_t4_loop v).OK := Scf.rem_ok _ _
theorem no_rem (v : BitVec 32) (t : Fin (k0_t4_loop v).trips) : False := by
  have := lt_of_lt_of_eq t.2 (Scf.rem_trips _ _); omega
theorem ok_rem' (v : BitVec 32) : (k0_t2_loop v).OK := Scf.rem_ok _ _
theorem no_rem' (v : BitVec 32) (t : Fin (k0_t2_loop v).trips) : False := by
  have := lt_of_lt_of_eq t.2 (Scf.rem_trips _ _); omega

/-- A count of the kernel's range passes the body's check. -/
theorem chk_of_range (v : BitVec 32) (h : InRange v) : k0_chk1 v :=
  ⟨⟨ok_clear v h, inb_clear v h, ok_rem' v, fun t => (no_rem' v t).elim, ok_sweep v h, inb_sweep v h, ok_rem v, fun t => (no_rem v t).elim, ok_sweep v h, inb_sweep v h, ok_rem v, fun t => (no_rem v t).elim, ok_sweep v h, inb_sweep v h, ok_rem v, fun t => (no_rem v t).elim, ok_sweep v h, inb_sweep v h, ok_rem v, fun t => (no_rem v t).elim, ok_sweep v h, inb_sweep v h, ok_rem v, fun t => (no_rem v t).elim, ok_sweep v h, inb_sweep v h, ok_rem v, fun t => (no_rem v t).elim, ok_sweep v h, inb_sweep v h, ok_rem v, fun t => (no_rem v t).elim⟩, ⟨ok_sweep v h, inb_sweep v h, ok_rem v, fun t => (no_rem v t).elim, ok_sweep v h, inb_sweep v h, ok_rem v, fun t => (no_rem v t).elim, ok_sweep v h, inb_sweep v h, ok_rem v, fun t => (no_rem v t).elim, ok_sweep v h, inb_sweep v h, ok_rem v, fun t => (no_rem v t).elim⟩⟩

end Cert.KernelIdeal.Sinkhorn
-- ==== Proof.Passes.lean ====
module

public import proofs.«01_k».proof.Proof.Counts
public import Idealize.ShloMosaic.Lib.Pipeline.FrameBody
public import Idealize.ShloMosaic.Lib.Tactic

@[expose] public section

noncomputable section

/-! What the passes leave in the scratch buffer, as a function of what it held, and that they leave it. -/

namespace Cert.KernelIdeal.Sinkhorn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The scratch buffer that holds the sample. -/
abbrev xsM : Memref sig .tc .vmem S2048x2048 .f32 := Memref.whole cc0_scratch0

/-- A sample. -/
abbrev Sample (F : FTy → Type) [FloatOps F] : Type := Vec F S2048x2048 .f32

/-- Trip `t`'s strip, as a rectangle of the sample. -/
abbrev stripRect (v1 : Elt F .i32) (hw : k0_chk1 v1) (t : Fin (k0_t3_loop v1).trips) : Rect S2048x2048 :=
  Rect.unit (s := S2048x2048) (k0_off5 v1 t) S256x2048.size (k0_off5_inb v1 hw t)

/-- The strip read out of a sample, -/
def getStrip (v1 : Elt F .i32) (hw : k0_chk1 v1) (t : Fin (k0_t3_loop v1).trips) (f : Sample F) : Vec F S256x2048 .f32 :=
  (xsM.access (stripRect v1 hw t)).read (Elt F) f

/-- and written into it. -/
def putStrip (v1 : Elt F .i32) (hw : k0_chk1 v1) (t : Fin (k0_t3_loop v1).trips) (f : Sample F) (w : FVec F S256x2048 .f32) : Sample F :=
  (xsM.access (stripRect v1 hw t)).write (Elt F) f w Finset.univ

/-- The state after the first `k` of `n` steps taken in order. -/
def iter {β : Type} (n : ℕ) (step : Fin n → β → β) (s : β) : ℕ → β
  | 0 => s
  | k + 1 => if hk : k < n then step ⟨k, hk⟩ (iter n step s k) else iter n step s k

theorem iter_zero {β : Type} (n : ℕ) (step : Fin n → β → β) (s : β) : iter n step s 0 = s := rfl

theorem iter_succ {β : Type} (n : ℕ) (step : Fin n → β → β) (s : β) (t : Fin n) : iter n step s (t.val + 1) = step t (iter n step s t.val) :=
  dif_pos t.2

attribute [irreducible] iter

/-- A trip of a pass, on the sample and the carried value. -/
def sweepStep {σ : Type} (v1 : Elt F .i32) (hw : k0_chk1 v1)
    (g : Fin (k0_t3_loop v1).trips → Vec F S256x2048 .f32 → FVec F S256x2048 .f32)
    (h : Fin (k0_t3_loop v1).trips → σ → Vec F S256x2048 .f32 → σ) (t : Fin (k0_t3_loop v1).trips) (s : Sample F × σ) : Sample F × σ :=
  (putStrip v1 hw t s.1 (g t (getStrip v1 hw t s.1)), h t s.2 (getStrip v1 hw t s.1))

/-- The sample and the carried value after the first `k` trips of a pass. -/
abbrev sweepTo {σ : Type} (v1 : Elt F .i32) (hw : k0_chk1 v1) (init : σ)
    (g : Fin (k0_t3_loop v1).trips → Vec F S256x2048 .f32 → FVec F S256x2048 .f32)
    (h : Fin (k0_t3_loop v1).trips → σ → Vec F S256x2048 .f32 → σ) (f : Sample F) (k : ℕ) : Sample F × σ :=
  iter (k0_t3_loop v1).trips (sweepStep v1 hw g h) (f, init) k

/-- What a pass leaves. -/
def sweepOut {σ : Type} (v1 : Elt F .i32) (hw : k0_chk1 v1) (init : σ)
    (g : Fin (k0_t3_loop v1).trips → Vec F S256x2048 .f32 → FVec F S256x2048 .f32)
    (h : Fin (k0_t3_loop v1).trips → σ → Vec F S256x2048 .f32 → σ) (f : Sample F) : Sample F × σ :=
  sweepTo v1 hw init g h f (k0_t3_loop v1).trips

/-- A trip of the clearing loop. -/
def clearStep (v1 : Elt F .i32) (hw : k0_chk1 v1) (t : Fin (k0_t1_loop v1).trips) (f : Sample F) : Sample F :=
  (xsM.access (Rect.unit (s := S2048x2048) (k0_off3 v1 t) S256x2048.size (k0_off3_inb v1 hw t))).write (Elt F) f (k0_pay3 (F := F)) Finset.univ

/-- What the clearing loop leaves. -/
def clearOut (v1 : Elt F .i32) (hw : k0_chk1 v1) (f : Sample F) : Sample F :=
  iter (k0_t1_loop v1).trips (clearStep v1 hw) f (k0_t1_loop v1).trips

def colOut (v1 v3 : Elt F .i32) (hw : k0_chk1 v1) (f : Sample F) : Sample F × FVec F S1x2048 .f32 :=
  sweepOut v1 hw (k0_pay7 (F := F)) (colG v1 v3) (colH v1 v3) f

def rowOut (v1 v3 : Elt F .i32) (hw : k0_chk1 v1) (p : Sample F × FVec F S1x2048 .f32) : Sample F :=
  (sweepOut v1 hw 0#32 (rowG v1 v3 p.2) (fun _ _ _ => 0#32) p.1).1

def firstOut (v1 v3 : Elt F .i32) (hw : k0_chk1 v1) (f : Sample F) : Sample F :=
  (sweepOut v1 hw 0#32 (firstG v1 v3) (fun _ _ _ => 0#32) f).1

def lastOut (v1 : Elt F .i32) (hw : k0_chk1 v1) (p : Sample F × FVec F S1x2048 .f32) : Sample F :=
  (sweepOut v1 hw 0#32 (fun _ v => k0_pay55 p.2 v) (fun _ _ _ => 0#32) p.1).1

/-- One row pass and the column pass after it. -/
def roundOut (v1 v3 : Elt F .i32) (hw : k0_chk1 v1) (p : Sample F × FVec F S1x2048 .f32) : Sample F × FVec F S1x2048 .f32 :=
  colOut v1 v3 hw (rowOut v1 v3 hw p)

/-- What the kernel leaves of a sample. -/
def passesOut (v1 v3 : Elt F .i32) (hw : k0_chk1 v1) (f : Sample F) : Sample F :=
  lastOut v1 hw (roundOut v1 v3 hw (roundOut v1 v3 hw (roundOut v1 v3 hw (roundOut v1 v3 hw
    (colOut v1 v3 hw (firstOut v1 v3 hw (clearOut v1 hw f)))))))

variable (c : Dev nD)

/-- The scratch buffer holding the sample `f`. -/
abbrev xsAt (f : Sample F) : sProp 𝕄 := xsM.view.loc (c : Thread nD τ) ↦{fullShare} f

/-- One trip of a pass rewrites its strip. -/
theorem wp_strip {σ : Type} (v1 : Elt F .i32) (hw : k0_chk1 v1) (t : Fin (k0_t3_loop v1).trips)
    (w : Vec F S256x2048 .f32 → FVec F S256x2048 .f32) (y : Vec F S256x2048 .f32 → σ) (f : Sample F) (Q : σ → sProp 𝕄) :
    xsAt c f ⊢ iprop((xsAt c (putStrip v1 hw t f (w (getStrip v1 hw t f))) -∗ Q (y (getStrip v1 hw t f)))
      -∗ wp frame (wpE (defs₀ (F := F)) Variants.none c none) Set.univ (strip v1 hw xsM t w y) Q) := by
  unfold strip putStrip getStrip
  iintro H Hk
  iapply (wp_load_rect (c := (c : Thread nD τ)) (m := xsM) (r := stripRect v1 hw t) (f := f) Variants.none none Set.univ (Finset.subset_univ _)) $$ H
  iintro H
  iapply (wp_load_rect (c := (c : Thread nD τ)) (m := xsM) (r := stripRect v1 hw t) (f := f) Variants.none none Set.univ (Finset.subset_univ _)) $$ H
  iintro H
  iapply (wp_store (c := (c : Thread nD τ)) (m := xsM) (r := stripRect v1 hw t) (f := f) Variants.none none Set.univ (Finset.subset_univ _)) $$ H
  iintro H
  simp only [Prog.bind, wp_pure]
  imodintro
  iapply Hk $$ H

/-- What holds of the buffer and the carried value before trip `n` of a pass. -/
abbrev sweepInv {σ : Type} (v1 : Elt F .i32) (hw : k0_chk1 v1) (init : σ)
    (g : Fin (k0_t3_loop v1).trips → Vec F S256x2048 .f32 → FVec F S256x2048 .f32)
    (h : Fin (k0_t3_loop v1).trips → σ → Vec F S256x2048 .f32 → σ) (f : Sample F) (n : ℕ) (acc : σ) : sProp 𝕄 :=
  iprop(⌜acc = (sweepTo v1 hw init g h f n).2⌝ ∗ xsAt c (sweepTo v1 hw init g h f n).1)

/-- A trip takes the state one step. -/
theorem wp_sweep_trip {σ : Type} (v1 : Elt F .i32) (hw : k0_chk1 v1)
    (g : Fin (k0_t3_loop v1).trips → Vec F S256x2048 .f32 → FVec F S256x2048 .f32)
    (h : Fin (k0_t3_loop v1).trips → σ → Vec F S256x2048 .f32 → σ) (t : Fin (k0_t3_loop v1).trips) (s : Sample F × σ) :
    xsAt c s.1 ⊢ wp frame (wpE (defs₀ (F := F)) Variants.none c none) Set.univ (strip v1 hw xsM t (g t) (h t s.2))
      (fun acc => iprop(⌜acc = (sweepStep v1 hw g h t s).2⌝ ∗ xsAt c (sweepStep v1 hw g h t s).1)) := by
  obtain ⟨f, a⟩ := s
  iintro H
  iapply (wp_strip c v1 hw t (g t) (h t a) f) $$ H
  iintro H
  unfold sweepStep
  dsimp only
  isplitr
  · ipureintro; rfl
  · iexact H

/-- A trip keeps it. -/
theorem wp_sweep_step {σ : Type} (v1 : Elt F .i32) (hw : k0_chk1 v1) (init : σ)
    (g : Fin (k0_t3_loop v1).trips → Vec F S256x2048 .f32 → FVec F S256x2048 .f32)
    (h : Fin (k0_t3_loop v1).trips → σ → Vec F S256x2048 .f32 → σ) (f : Sample F) (t : Fin (k0_t3_loop v1).trips) (acc : σ) :
    sweepInv c v1 hw init g h f t.val acc
      ⊢ wp frame (wpE (defs₀ (F := F)) Variants.none c none) Set.univ (strip v1 hw xsM t (g t) (h t acc)) (sweepInv c v1 hw init g h f (t.val + 1)) := by
  iintro ⟨%hacc, H⟩
  subst hacc
  unfold sweepInv sweepTo
  rw [iter_succ]
  iapply (wp_sweep_trip c v1 hw g h t _) $$ H

/-- A pass leaves what `sweepOut` says and continues with the value it says. -/
theorem wp_sweep {σ : Type} (v1 : Elt F .i32) (hw : k0_chk1 v1) (init : σ)
    (g : Fin (k0_t3_loop v1).trips → Vec F S256x2048 .f32 → FVec F S256x2048 .f32)
    (h : Fin (k0_t3_loop v1).trips → σ → Vec F S256x2048 .f32 → σ) (f : Sample F)
    {α : Type} (k : σ → Prog (TpuEff nD τ sig (Elt F) Λ₀ .tc) α) (Q : α → sProp 𝕄) :
    xsAt c f ⊢ iprop((xsAt c (sweepOut v1 hw init g h f).1
        -∗ wp frame (wpE (defs₀ (F := F)) Variants.none c none) Set.univ (k (sweepOut v1 hw init g h f).2) Q)
      -∗ wp frame (wpE (defs₀ (F := F)) Variants.none c none) Set.univ (sweep v1 hw xsM init g h >>= k) Q) := by
  have key := Scf.wp_for_bind frame (wpE (defs₀ (F := F)) Variants.none c none) Set.univ _ _ _ (k0_t3_ok v1 hw) init
    (fun t acc => strip v1 hw xsM t (g t) (h t acc)) (sweepInv c v1 hw init g h f) (wp_sweep_step c v1 hw init g h f) (kk := k) (Q := Q)
  have h0 : xsAt c f ⊢ sweepInv c v1 hw init g h f 0 init := by
    unfold sweepInv sweepTo
    rw [iter_zero]
    iintro H
    isplitr
    · ipureintro; rfl
    · iexact H
  refine (h0.trans key).trans (wand_mono_left ?_)
  iintro Hk %acc ⟨%hacc, H⟩
  subst hacc
  iapply Hk
  iexact H

end Cert.KernelIdeal.Sinkhorn
-- ==== Proof.Body.lean ====
module

public import proofs.«01_k».proof.Proof.Passes
public import Idealize.ShloMosaic.Lib.Transfers

@[expose] public section

noncomputable section

/-! One grid point's run: the sample copied in, the passes, the sample copied out. -/

namespace Cert.KernelIdeal.Sinkhorn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD)

/-- A trip of the clearing loop clears its strip. -/
theorem wp_clear_step (v1 : Elt F .i32) (hw : k0_chk1 v1) (t : Fin (k0_t1_loop v1).trips) (f : Sample F) (Q : BitVec 32 → sProp 𝕄) :
    xsAt c f ⊢ iprop((xsAt c (clearStep v1 hw t f) -∗ Q 0#32)
      -∗ wp frame (wpE (defs₀ (F := F)) Variants.none c none) Set.univ (do
        let _ : Vec F S256x2048 .f32 ← Prog.lift (.load xsM (Rect.unit (s := S2048x2048) (k0_off3 v1 t) S256x2048.size (k0_off3_inb v1 hw t)).toLoadRect (View.loadsAt_vmem h_S256x2048))
        Prog.lift (.store xsM (Rect.unit (s := S2048x2048) (k0_off3 v1 t) S256x2048.size (k0_off3_inb v1 hw t)) (k0_pay3 (F := F)) Finset.univ (View.stores_vmem_bits_univ h_S256x2048 rfl) (.inl rfl))
        pure 0#32) Q) := by
  unfold clearStep
  iintro H Hk
  iapply (wp_load_rect (c := (c : Thread nD τ)) (m := xsM) (r := Rect.unit (s := S2048x2048) (k0_off3 v1 t) S256x2048.size (k0_off3_inb v1 hw t)) (f := f) Variants.none none Set.univ (Finset.subset_univ _)) $$ H
  iintro H
  iapply (wp_store (c := (c : Thread nD τ)) (m := xsM) (r := Rect.unit (s := S2048x2048) (k0_off3 v1 t) S256x2048.size (k0_off3_inb v1 hw t)) (f := f) Variants.none none Set.univ (Finset.subset_univ _)) $$ H
  iintro H
  simp only [Prog.bind, wp_pure]
  imodintro
  iapply Hk $$ H

/-- The clearing loop leaves what `clearOut` says. -/
theorem wp_clear (v1 : Elt F .i32) (hw : k0_chk1 v1) (f : Sample F) {α : Type}
    (k : BitVec 32 → Prog (TpuEff nD τ sig (Elt F) Λ₀ .tc) α) (Q : α → sProp 𝕄) :
    xsAt c f ⊢ iprop((∀ w, xsAt c (clearOut v1 hw f) -∗ wp frame (wpE (defs₀ (F := F)) Variants.none c none) Set.univ (k w) Q)
      -∗ wp frame (wpE (defs₀ (F := F)) Variants.none c none) Set.univ (clear v1 hw xsM >>= k) Q) := by
  have key := Scf.wp_for_bind frame (wpE (defs₀ (F := F)) Variants.none c none) Set.univ _ _ _ (k0_t1_ok v1 hw) 0#32
    (fun t _ => (do
        let _ : Vec F S256x2048 .f32 ← Prog.lift (.load xsM (Rect.unit (s := S2048x2048) (k0_off3 v1 t) S256x2048.size (k0_off3_inb v1 hw t)).toLoadRect (View.loadsAt_vmem h_S256x2048))
        Prog.lift (.store xsM (Rect.unit (s := S2048x2048) (k0_off3 v1 t) S256x2048.size (k0_off3_inb v1 hw t)) (k0_pay3 (F := F)) Finset.univ (View.stores_vmem_bits_univ h_S256x2048 rfl) (.inl rfl))
        pure 0#32))
    (fun n _ => xsAt c (iter (k0_t1_loop v1).trips (clearStep v1 hw) f n))
    (fun t _ => by
      rw [iter_succ]
      iintro H
      iapply (wp_clear_step c v1 hw t _ _) $$ H
      iintro H
      iexact H) (kk := k) (Q := Q)
  rw [iter_zero] at key
  exact key

/-- The passes leave what `passesOut` says. -/
theorem wp_passes (v1 v3 : Elt F .i32) (hw : k0_chk1 v1) (f : Sample F) {α : Type}
    (k : PUnit → Prog (TpuEff nD τ sig (Elt F) Λ₀ .tc) α) (Q : α → sProp 𝕄) :
    xsAt c f ⊢ iprop((xsAt c (passesOut v1 v3 hw f) -∗ wp frame (wpE (defs₀ (F := F)) Variants.none c none) Set.univ (k ⟨⟩) Q)
      -∗ wp frame (wpE (defs₀ (F := F)) Variants.none c none) Set.univ (passes v1 v3 hw xsM >>= k) Q) := by
  unfold passes firstSweep colSweep rowSweep lastSweep
  simp only [bind_assoc, pure_bind]
  iintro H Hk
  iapply (wp_clear c v1 hw f) $$ H
  iintro %w H
  iapply (wp_sweep c v1 hw) $$ H
  iintro H
  iapply (wp_sweep c v1 hw) $$ H
  iintro H
  iapply (wp_sweep c v1 hw) $$ H
  iintro H
  iapply (wp_sweep c v1 hw) $$ H
  iintro H
  iapply (wp_sweep c v1 hw) $$ H
  iintro H
  iapply (wp_sweep c v1 hw) $$ H
  iintro H
  iapply (wp_sweep c v1 hw) $$ H
  iintro H
  iapply (wp_sweep c v1 hw) $$ H
  iintro H
  iapply (wp_sweep c v1 hw) $$ H
  iintro H
  iapply (wp_sweep c v1 hw) $$ H
  iintro H
  iapply (wp_sweep c v1 hw) $$ H
  iintro H
  iapply Hk
  unfold passesOut roundOut lastOut rowOut colOut firstOut
  iexact H

/-- A copy within the core, issued and awaited, leaves the destination written with what its source view reads. -/
theorem wp_copy {sp sp' : Space} {s : Shape} {e : EltTy} (src : Memref sig .tc sp s e) (dst : Memref sig .tc sp' s e) (sem : DmaSem sig)
    (hs : src.view.WordExact) (hd : dst.view.WordExact) (hty : DmaTarget.Typed (nD := nD) sp (.dma sem) (DmaTarget.here (p := (.tc : Proc τ)) dst)) (hpos : 0 < s.numel)
    (fs : Buf (Elt F) (src.view.loc (c : Thread nD τ))) (fd : Buf (Elt F) (dst.view.loc (c : Thread nD τ))) (W : Waits sig Unit)
    {α : Type} (k : PUnit → Prog (TpuEff nD τ sig (Elt F) Λ₀ .tc) α) (Q : α → sProp 𝕄) :
    iprop((src.view.loc (c : Thread nD τ) ↦{fullShare} fs) ∗ (dst.view.loc (c : Thread nD τ) ↦{fullShare} fd)
        ∗ semVal ((c : Thread nD τ), .dma sem) 0 ∗ owes (c : Thread nD τ) 0 W)
      ⊢ iprop((iprop((src.view.loc (c : Thread nD τ) ↦{fullShare} fs)
            ∗ (dst.view.loc (c : Thread nD τ) ↦{fullShare} dst.view.write (Elt F) fd (src.view.read (Elt F) fs) Finset.univ)
            ∗ semVal ((c : Thread nD τ), .dma sem) 0 ∗ (∃ W', owes (c : Thread nD τ) 0 W'))
          -∗ wp frame (wpE (defs₀ (F := F)) Variants.none c none) Set.univ (k ⟨⟩) Q)
        -∗ wp frame (wpE (defs₀ (F := F)) Variants.none c none) Set.univ
          (.op (TpuEff.enqueueDma (p := (.tc : Proc τ)) src (.here dst) (.dma sem) hs hd hty) fun _ => .op (.waitDma2 sem src dst hs hd) k) Q) := by
  iintro ⟨Hs, Hd, Hv, HW⟩ Hk
  ihave ⟨Hs, Hr⟩ := (pointsTo_split_subset (Finset.subset_univ src.view.set)).1 $$ Hs
  iapply (Transfers.wp_dmaLocal (countersEmb (U := Pipeline.UD sig nD τ)) Variants.none (c : Thread nD τ) none (src := src) (dst := dst) (via := ReadAs.same) (sm := .dma sem) (fs := fs) (fd := fd)
    () dst.view.dmaCredit rfl (View.dmaCredit_pos _ hpos) (Finset.subset_univ _)) $$ [Hs Hd Hv]
  · isplitl [Hs]; · iexact Hs
    isplitl [Hd]; · iexact Hd
    iexact Hv
  iintro HF
  iapply (Transfers.wp_waitLocal (countersEmb (U := Pipeline.UD sig nD τ)) Variants.none (c : Thread nD τ) none (sem := sem) (srcw := src) (dstw := dst) () rfl) $$ [HF HW]
  · isplitl [HF]; · iexact HF
    iexact HW
  iintro ⟨⟨Hd, Hs⟩, Hv, HW⟩
  iapply Hk
  isplitl [Hs Hr]
  · iapply (pointsTo_split_subset (Finset.subset_univ src.view.set)).2
    isplitl [Hs]; · iexact Hs
    iexact Hr
  isplitl [Hd]; · iexact Hd
  isplitl [Hv]; · iexact Hv
  iexists _
  iexact HW

/-- The count a table holds for grid point `i`. -/
def countAt (i : grid0.Coords) (T : Vec F S8 .i32) : Elt F .i32 :=
  ((Memref.whole main_arg1).access (Rect.unit (s := S8) (k0_off1 i) S1.size (k0_off1_inb i))).read (Elt F) T (Shape.Idx.first (numel1_S1.symm ▸ Nat.one_pos))

/-- What the sample's view reads of a batch. -/
def sampleOf (i : grid0.Coords) (A : Vec F S8x2048x2048 .f32) : Sample F :=
  (sampleRef i (Memref.whole main_arg0)).view.read (Elt F) A

/-- A batch with one sample replaced. -/
def withSample (i : grid0.Coords) (W : Vec F S8x2048x2048 .f32) (x : Sample F) : Vec F S8x2048x2048 .f32 :=
  (sampleRef i (Memref.whole main_v0)).view.write (Elt F) W x Finset.univ

/-- The stages as one chain of operations. -/
theorem stages_eq (i : grid0.Coords) (arg1 : Memref sig .tc .smem S8 .i32) (arg2 : Memref sig .tc .smem S8 .i32)
    (arg3 arg4 : Memref sig .tc .hbm S8x2048x2048 .f32) (arg5 : Memref sig .tc .vmem S2048x2048 .f32) (harg5 : arg5.IsWhole)
    (arg6 arg7 : DmaSems sig S_) :
    stages (F := F) i arg1 arg2 arg3 arg4 arg5 harg5 arg6 arg7
      = smemLoadElt arg1 (Rect.unit (s := S8) (k0_off1 i) S1.size (k0_off1_inb i)) (View.loads_smem_one rfl numel1_S1) (Shape.Idx.first (numel1_S1.symm ▸ Nat.one_pos)) fun (v1 : Elt F .i32) =>
        .op (TpuEff.assume (k0_chk1 v1) (k0_chk1.dec v1)) fun hw =>
        smemLoadElt arg2 (Rect.unit (s := S8) (k0_off1 i) S1.size (k0_off1_inb i)) (View.loads_smem_one rfl numel1_S1) (Shape.Idx.first (numel1_S1.symm ▸ Nat.one_pos)) fun (v3 : Elt F .i32) =>
        .op (TpuEff.enqueueDma (p := (.tc : Proc τ)) (sampleRef i arg3) (.here arg5) (.dma arg6.sem) ((View.wordExact_bits rfl).reshape _ _) harg5.wordExact ⟨Or.inl rfl, trivial⟩) fun _ =>
        .op (TpuEff.waitDma2 (p := (.tc : Proc τ)) arg6.sem (sampleRef i arg3) arg5 ((View.wordExact_bits rfl).reshape _ _) harg5.wordExact) fun _ =>
        passes v1 v3 hw.down arg5 >>= fun _ =>
        .op (TpuEff.enqueueDma (p := (.tc : Proc τ)) arg5 (.here (sampleRef i arg4)) (.dma arg7.sem) harg5.wordExact ((View.wordExact_bits rfl).reshape _ _) ⟨Or.inl rfl, trivial⟩) fun _ =>
        .op (TpuEff.waitDma2 (p := (.tc : Proc τ)) arg7.sem arg5 (sampleRef i arg4) harg5.wordExact ((View.wordExact_bits rfl).reshape _ _)) fun _ =>
        .ret ⟨⟩ := rfl

/-- The copy in leaves the sample in the scratch buffer. -/
theorem copied_in (i : grid0.Coords) (A : Vec F S8x2048x2048 .f32) (f : Sample F) :
    (((Memref.whole cc0_scratch0 : Memref sig .tc .vmem S2048x2048 .f32).view.loc (c : Thread nD τ)
        ↦{fullShare} (Memref.whole cc0_scratch0 : Memref sig .tc .vmem S2048x2048 .f32).view.write (Elt F) f ((sampleRef i (Memref.whole main_arg0)).view.read (Elt F) A) Finset.univ) : sProp 𝕄)
      = xsAt c (sampleOf i A) := by
  unfold xsAt sampleOf
  exact congrArg _ (View.write_whole_univ _ _ _)

/-- The copy out leaves the scratch buffer's contents in the output's sample. -/
theorem copied_out (i : grid0.Coords) (W : Vec F S8x2048x2048 .f32) (f : Sample F) :
    (((sampleRef i (Memref.whole main_v0)).view.loc (c : Thread nD τ)
        ↦{fullShare} (sampleRef i (Memref.whole main_v0)).view.write (Elt F) W ((Memref.whole cc0_scratch0 : Memref sig .tc .vmem S2048x2048 .f32).view.read (Elt F) f) Finset.univ) : sProp 𝕄)
      = ((Memref.whole main_v0 : Memref sig .tc .hbm S8x2048x2048 .f32).view.loc (c : Thread nD τ) ↦{fullShare} withSample i W f) := rfl

/-- The whole body at one grid point: the output's sample becomes the passes of the input's sample. -/
theorem wp_stages (i : grid0.Coords) (q : PosShare TreeShare) (T1 T2 : Vec F S8 .i32) (h1 : InRange (countAt i T1))
    (A W : Vec F S8x2048x2048 .f32) (Wt : Waits sig Unit) (Q : PUnit → sProp 𝕄) :
    iprop(((Memref.whole main_arg1).view.loc (c : Thread nD τ) ↦{q} T1) ∗ ((Memref.whole main_arg2).view.loc (c : Thread nD τ) ↦{q} T2)
        ∗ ((Memref.whole main_arg0).view.loc (c : Thread nD τ) ↦{fullShare} A) ∗ ((Memref.whole main_v0).view.loc (c : Thread nD τ) ↦{fullShare} W)
        ∗ (∃ f, xsAt c f)
        ∗ semVal ((c : Thread nD τ), .dma cc0_scratch1.sem) 0 ∗ semVal ((c : Thread nD τ), .dma cc0_scratch2.sem) 0
        ∗ owes (c : Thread nD τ) 0 Wt)
      ⊢ iprop((iprop(((Memref.whole main_arg1).view.loc (c : Thread nD τ) ↦{q} T1) ∗ ((Memref.whole main_arg2).view.loc (c : Thread nD τ) ↦{q} T2)
        ∗ ((Memref.whole main_arg0).view.loc (c : Thread nD τ) ↦{fullShare} A)
        ∗ ((Memref.whole main_v0).view.loc (c : Thread nD τ) ↦{fullShare}
            withSample i W (passesOut (countAt i T1) (countAt i T2) (chk_of_range _ h1) (sampleOf i A)))
        ∗ (∃ f, xsAt c f)
        ∗ semVal ((c : Thread nD τ), .dma cc0_scratch1.sem) 0 ∗ semVal ((c : Thread nD τ), .dma cc0_scratch2.sem) 0
        ∗ (∃ W', owes (c : Thread nD τ) 0 W')) -∗ Q ⟨⟩)
      -∗ wp frame (wpE (defs₀ (F := F)) Variants.none c none) Set.univ
        (stages i (Memref.whole main_arg1) (Memref.whole main_arg2) (Memref.whole main_arg0) (Memref.whole main_v0)
          (Memref.whole cc0_scratch0) (Memref.isWhole_whole _) cc0_scratch1 cc0_scratch2) Q) := by
  rw [stages_eq]
  iintro ⟨HT1, HT2, HA, HW, ⟨%f, Hx⟩, Hs, Hs', Ho⟩ Hk
  iapply (wp_smemLoadElt (m := Memref.whole main_arg1) (r := Rect.unit (s := S8) (k0_off1 i) S1.size (k0_off1_inb i)) (f := T1) Variants.none (c : Thread nD τ) none Set.univ (Finset.subset_univ _)) $$ HT1
  iintro HT1
  iapply (wp_assume Variants.none (c : Thread nD τ) none Set.univ (chk_of_range _ h1))
  iapply (wp_smemLoadElt (m := Memref.whole main_arg2) (r := Rect.unit (s := S8) (k0_off1 i) S1.size (k0_off1_inb i)) (f := T2) Variants.none (c : Thread nD τ) none Set.univ (Finset.subset_univ _)) $$ HT2
  iintro HT2
  iapply (wp_copy c (sampleRef i (Memref.whole main_arg0)) (Memref.whole cc0_scratch0) cc0_scratch1.sem _ _ _ (by decide) A f Wt) $$ [HA Hx Hs Ho]
  · isplitl [HA]; · iexact HA
    isplitl [Hx]; · iexact Hx
    isplitl [Hs]; · iexact Hs
    iexact Ho
  iintro ⟨HA, Hx, Hs, ⟨%Wt', Ho⟩⟩
  ihave Hx := (Entails.of_eq (copied_in c i A f)) $$ Hx
  iapply (wp_passes c _ _ (chk_of_range _ h1)) $$ Hx
  iintro Hx
  iapply (wp_copy c (Memref.whole cc0_scratch0) (sampleRef i (Memref.whole main_v0)) cc0_scratch2.sem _ _ _ (by decide) _ W Wt') $$ [HW Hx Hs' Ho]
  · isplitl [Hx]; · iexact Hx
    isplitl [HW]; · iexact HW
    isplitl [Hs']; · iexact Hs'
    iexact Ho
  iintro ⟨Hx, HW, Hs', Ho⟩
  ihave HW := (Entails.of_eq (copied_out c i W _)) $$ HW
  rw [wp_ret]
  imodintro
  iapply Hk
  isplitl [HT1]; · iexact HT1
  isplitl [HT2]; · iexact HT2
  isplitl [HA]; · iexact HA
  isplitl [HW]; · iexact HW
  isplitl [Hx]; · iexists _; iexact Hx
  isplitl [Hs]; · iexact Hs
  isplitl [Hs']; · iexact Hs'
  iexact Ho

end Cert.KernelIdeal.Sinkhorn
-- ==== Proof.Run.lean ====
module

public import proofs.«01_k».proof.Proof.Body
public import proofs.«01_k».proof.Proof.Gen.KernelIdeal.Launch
public import Idealize.ShloMosaic.Lib.Pipeline.FrameValue

@[expose] public section

noncomputable section

/-! The kernel's run: from the launch state, all eight samples processed, every argument as it was and every semaphore
    back at zero. -/

namespace Cert.KernelIdeal.Sinkhorn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable {F : FTy → Type} [FloatOps F]

local notation "𝕄" => MT nD τ sig Unit (Elt F) ℕ (Pipeline.UD sig nD τ) ℕ

/-- The batch with sample `t` processed. -/
def batchStep (T1 T2 : Vec F S8 .i32) (hr : ∀ i : grid0.Coords, InRange (countAt i T1)) (A : Vec F S8x2048x2048 .f32)
    (t : Fin grid0.N) (W : Vec F S8x2048x2048 .f32) : Vec F S8x2048x2048 .f32 :=
  withSample (grid0.coords t) W (passesOut (countAt (grid0.coords t) T1) (countAt (grid0.coords t) T2)
    (chk_of_range _ (hr (grid0.coords t))) (sampleOf (grid0.coords t) A))

/-- The output after the first `n` samples, from contents `W`. -/
def batchTo (T1 T2 : Vec F S8 .i32) (hr : ∀ i : grid0.Coords, InRange (countAt i T1)) (A W : Vec F S8x2048x2048 .f32) (n : ℕ) :
    Vec F S8x2048x2048 .f32 :=
  iter grid0.N (batchStep T1 T2 hr A) W n

variable (m : (ℓ : Loc nD τ sig) → Buf (Elt F) ℓ) (ρ : Dev nD → PrngReg)

/-- The agents table, the tasks table, the input and the output's initial contents. -/
abbrev agents (c : Dev nD) : Vec F S8 .i32 := m ((c : Thread nD τ).loc main_arg1)
abbrev tasks (c : Dev nD) : Vec F S8 .i32 := m ((c : Thread nD τ).loc main_arg2)
abbrev input (c : Dev nD) : Vec F S8x2048x2048 .f32 := m ((c : Thread nD τ).loc main_arg0)
abbrev junk (c : Dev nD) : Vec F S8x2048x2048 .f32 := m ((c : Thread nD τ).loc main_v0)

/-- The tables as the pipeline reads them. -/
def adm (p : Fin 1) : (pcfgs (F := F) p).Adm :=
  ⟨fun k => m (((0 : Dev nD) : Thread nD τ).loc (pre0.ref k)), trivial⟩

variable (hr : ∀ (c : Dev nD) (i : grid0.Coords), InRange (countAt i (agents m c)))

/-- What holds before grid point `n`. -/
def inv (c : Dev nD) (n : ℕ) : sProp 𝕄 :=
  iprop(((Memref.whole main_arg1).view.loc (c : Thread nD τ) ↦{fullShare.right} agents m c)
    ∗ ((Memref.whole main_arg2).view.loc (c : Thread nD τ) ↦{fullShare.right} tasks m c)
    ∗ ((Memref.whole main_arg0).view.loc (c : Thread nD τ) ↦{fullShare} input m c)
    ∗ ((Memref.whole main_v0).view.loc (c : Thread nD τ) ↦{fullShare} batchTo (agents m c) (tasks m c) (hr c) (input m c) (junk m c) n)
    ∗ (∃ f, xsAt c f)
    ∗ semVal ((c : Thread nD τ), .dma cc0_scratch1.sem) 0 ∗ semVal ((c : Thread nD τ), .dma cc0_scratch2.sem) 0
    ∗ (∃ r, prngReg c r))

/-- The pipeline's data: no window, the invariant above, nothing owed. -/
def rdat (c : Dev nD) : RDat τ (Elt F) Unit ℕ (Pipeline.UD sig nD τ) ℕ (Pipeline.pin (pcfgs (F := F)) (adm m) 0) c where
  A w := Fin.elim0 w
  after w := Fin.elim0 w
  Φ n := inv m hr c n.val
  q w := Fin.elim0 w
  owed _ := 0

theorem defs₀_body (t : Fin grid0.N) :
    defs₀ (F := F) .tc (Pipeline.pin (pcfgs (F := F)) (adm m) 0).body ((Pipeline.pin (pcfgs (F := F)) (adm m) 0).bodyArgs t ((Pipeline.pin (pcfgs (F := F)) (adm m) 0).slots t))
      = cc0__sinkhorn_body (grid0.coords t) (Memref.whole main_arg1) (Memref.isWhole_whole _) (Memref.whole main_arg2) (Memref.isWhole_whole _) (Memref.whole main_arg0) (Memref.isWhole_whole _) (Memref.whole main_v0) (Memref.isWhole_whole _) (Memref.whole cc0_scratch0) (Memref.isWhole_whole _) cc0_scratch1 cc0_scratch2 := by
  unfold defs₀; rw [Defs.onTc_tc]

/-- The invariant after point `t`: the sample processed. -/
theorem batchTo_succ (T1 T2 : Vec F S8 .i32) (hr : ∀ i : grid0.Coords, InRange (countAt i T1)) (A W : Vec F S8x2048x2048 .f32) (t : Fin grid0.N) :
    batchTo T1 T2 hr A W (t.val + 1) = withSample (grid0.coords t) (batchTo T1 T2 hr A W t.val)
      (passesOut (countAt (grid0.coords t) T1) (countAt (grid0.coords t) T2) (chk_of_range _ (hr (grid0.coords t))) (sampleOf (grid0.coords t) A)) := by
  unfold batchTo; rw [iter_succ]; rfl

/-- One grid point keeps the invariant. -/
theorem inv_step (c : Dev nD) (t : Fin grid0.N) (Wt : Waits sig Unit) (Q : PUnit → sProp 𝕄) :
    iprop(inv m hr c t.val ∗ owes (c : Thread nD τ) 0 Wt)
      ⊢ iprop((iprop(inv m hr c (t.val + 1) ∗ ∃ W', owes (c : Thread nD τ) 0 W') -∗ Q ⟨⟩) -∗ wp frame (wpE (defs₀ (F := F)) Variants.none c none) Set.univ
        (stages (grid0.coords t) (Memref.whole main_arg1) (Memref.whole main_arg2) (Memref.whole main_arg0) (Memref.whole main_v0)
          (Memref.whole cc0_scratch0) (Memref.isWhole_whole _) cc0_scratch1 cc0_scratch2)
        Q) := by
  unfold inv
  iintro ⟨⟨H1, H2, HA, HW, Hx, Hs, Hs', Hg⟩, Ho⟩ Hk
  iapply (wp_stages c (grid0.coords t) fullShare.right (agents m c) (tasks m c) (hr c _) (input m c) _ Wt) $$ [H1 H2 HA HW Hx Hs Hs' Ho]
  · isplitl [H1]; · iexact H1
    isplitl [H2]; · iexact H2
    isplitl [HA]; · iexact HA
    isplitl [HW]; · iexact HW
    isplitl [Hx]; · iexact Hx
    isplitl [Hs]; · iexact Hs
    isplitl [Hs']; · iexact Hs'
    iexact Ho
  iintro ⟨H1, H2, HA, HW, Hx, Hs, Hs', Ho⟩
  iapply Hk
  isplitr [Ho]
  · isplitl [H1]; · iexact H1
    isplitl [H2]; · iexact H2
    isplitl [HA]; · iexact HA
    isplitl [HW]; · rw [batchTo_succ]; iexact HW
    isplitl [Hx]; · iexact Hx
    isplitl [Hs]; · iexact Hs
    isplitl [Hs']; · iexact Hs'
    iexact Hg
  iexact Ho

/-- The body obligation of the launch. -/
theorem body_ok (c : Dev nD) : (rdat m hr c).BodyObligation (defs₀ (F := F)) Variants.none () Set.univ := by
  intro t Y _
  rw [defs₀_body, body_eq_stages]
  unfold RDat.owesAt Pipeline.owesWithin
  rw [show (rdat m hr c).owed t.castSucc = 0 from rfl, show (rdat m hr c).owed t.succ = 0 from rfl]
  rw [show (rdat m hr c).Φ t.castSucc = inv m hr c t.val from rfl, show (rdat m hr c).Φ t.succ = inv m hr c (t.val + 1) from rfl]
  iintro ⟨HI, ⟨%W, -, HW⟩, -⟩
  iapply (inv_step m hr c t W _) $$ [HI HW]
  · isplitl [HI]; · iexact HI
    iexact HW
  iintro ⟨HI, ⟨%W', HW⟩⟩
  isplitl [HI]; · iexact HI
  isplitl [HW]
  · iexists W'
    isplitr; · ipureintro; exact fun _ _ => Or.inl trivial
    iexact HW
  rw [show (Finset.univ : Finset (Fin (Pipeline.pin (pcfgs (F := F)) (adm m) 0).W)) = ∅ from rfl, BI.bigSep_empty]
  iempintro

/-! ## The launch -/

/-- The kernel's own semaphores. -/
abbrev osem : Fin 2 → SemLoc sig := ![SemLoc.dma cc0_scratch1.sem, SemLoc.dma cc0_scratch2.sem]
theorem ownSemFacts : Pipeline.OwnSemFacts spec0 osem := by decide
theorem ownSems_eq (c : Dev nD) :
    (Pipeline.ownSems0 (Ix := Unit) (Name := ℕ) (U := Pipeline.UD sig nD τ) (Lvl := ℕ) (Val := Elt F) (τ := τ) osem c : sProp 𝕄)
      = iprop(semVal ((c : Thread nD τ), .dma cc0_scratch1.sem) 0 ∗ semVal ((c : Thread nD τ), .dma cc0_scratch2.sem) 0) := by
  rw [Pipeline.ownSems0_eq_of_list c osem [0, 1] (by decide) (by decide)]; rfl

/-- The buffer the kernel reads by its own transfers, and the one it writes. -/
def readRefs : Finset (Ref sig .tc) := {main_arg0}
def writtenRefs : Finset (Ref sig .tc) := {main_v0}
theorem readRefs_sub : readRefs ⊆ Pipeline.restRefsP sig pre0 spec0 := by decide
theorem writtenRefs_sub : writtenRefs ⊆ Pipeline.restRefsP sig pre0 spec0 \ readRefs := by decide

/-- The memory the region finds. -/
abbrev V (c : Dev nD) (b : Ref sig .tc) : Buf (Elt F) ((c : Thread nD τ).loc b) := m ((c : Thread nD τ).loc b)

theorem readPts_eq (c : Dev nD) :
    (bigSep readRefs (fun b => ((c : Thread nD τ).loc b) ↦{fullShare} V m c b) : sProp 𝕄)
      = ((Memref.whole main_arg0).view.loc (c : Thread nD τ) ↦{fullShare} input m c) := by
  unfold readRefs; rw [BI.bigSep_singleton]

theorem writtenPts_eq (c : Dev nD) (W : (b : Ref sig .tc) → Buf (Elt F) ((c : Thread nD τ).loc b)) :
    (Pipeline.routed writtenRefs c W : sProp 𝕄) = ((Memref.whole main_v0).view.loc (c : Thread nD τ) ↦{fullShare} W main_v0) := by
  unfold writtenRefs Pipeline.routed; rw [BI.bigSep_singleton]

theorem tables_eq (c : Dev nD) :
    (Pipeline.ΦT (pcfgs (F := F) 0).pre (adm m 0).1 c : sProp 𝕄)
      = iprop(((Memref.whole main_arg1).view.loc (c : Thread nD τ) ↦{fullShare.right} agents m c)
        ∗ ((Memref.whole main_arg2).view.loc (c : Thread nD τ) ↦{fullShare.right} tasks m c)) := by
  obtain rfl : c = 0 := Subsingleton.elim _ _
  unfold Pipeline.ΦT Pipeline.prefHeld
  show bigSep (Finset.univ : Finset (Fin 2)) _ = _
  rw [BI.bigSep_eq_bigSepL_of_eq [0, 1] (by decide) (by decide)]; rfl

theorem scratch_eq (c : Dev nD) : (Pipeline.scopedRest (Ix := Unit) (Name := ℕ) (U := Pipeline.UD sig nD τ) (Lvl := ℕ) (Val := Elt F) spec0 c : sProp 𝕄)
      = iprop(∃ f, xsAt c f) := scopedRest0_eq c

/-- The launch state gives the invariant before the first point. -/
theorem inv_in (c : Dev nD) :
    iprop(Pipeline.ΦDRG osem spec0 readRefs writtenRefs (V m) (V m) c ∗ Pipeline.ΦT (pcfgs (F := F) 0).pre (adm m 0).1 c) ⊢ inv m hr c 0 := by
  rw [Pipeline.ΦDRG_eq, scratch_eq, ownSems_eq, readPts_eq, writtenPts_eq, tables_eq]
  unfold inv
  iintro ⟨⟨Hx, Hg, ⟨Hs, Hs'⟩, HA, HW⟩, H1, H2⟩
  isplitl [H1]; · iexact H1
  isplitl [H2]; · iexact H2
  isplitl [HA]; · iexact HA
  isplitl [HW]; · unfold batchTo; rw [iter_zero]; iexact HW
  isplitl [Hx]; · iexact Hx
  isplitl [Hs]; · iexact Hs
  isplitl [Hs']; · iexact Hs'
  iexact Hg

/-- The whole output. -/
def batchOut (c : Dev nD) : Vec F S8x2048x2048 .f32 := batchTo (agents m c) (tasks m c) (hr c) (input m c) (junk m c) grid0.N

/-- The invariant after the last point gives the output. -/
theorem inv_out (c : Dev nD) :
    inv m hr c grid0.N ⊢ iprop(Pipeline.ΦD osem spec0 readRefs (V m) c ∗ Pipeline.routedSat writtenRefs c (fun W => W main_v0 = batchOut m hr c)) := by
  rw [Pipeline.ΦD_eq, scratch_eq, ownSems_eq, readPts_eq]
  unfold inv Pipeline.routedSat
  iintro ⟨H1, H2, HA, HW, Hx, Hs, Hs', Hg⟩
  isplitr [HW]
  · isplitl [Hx]; · iexact Hx
    isplitl [Hg]; · iexact Hg
    isplitl [Hs Hs']
    · isplitl [Hs]; · iexact Hs
      iexact Hs'
    iexact HA
  iexists (Function.update (V m c) main_v0 (batchOut m hr c))
  isplitr; · ipureintro; exact Function.update_self _ _ _
  rw [writtenPts_eq, Function.update_self]
  iexact HW

set_option backward.isDefEq.respectTransparency.types false in
/-- The kernel runs: the output as `batchOut` says, the arguments as they were, every semaphore at zero. -/
theorem run_main :
    θ_run (defs (F := F)) (onTc (τ := τ) (main (F := F))) ⟨m, fun _ => 0, ρ⟩ (fun r =>
      (∀ c : Dev nD, r.2.mem ((c.tc : Thread nD τ).loc main_v0) = batchOut m hr c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
      ∧ r.2.sem = fun _ => 0) := by
  refine RDat.θ_run_frameP_dmaRSat_shared (pcfgs (F := F)) (adm m) 0 launch0.to₀ osem defs₀ Variants.none (rdat m hr) ownSemFacts
    readRefs writtenRefs readRefs_sub writtenRefs_sub m ρ main (body_ok m hr) (fun _ w => Fin.elim0 w) (fun _ _ => rfl) (V m)
    (Pipeline.hmainP_region (pcfgs (F := F)) 0 defs₀ Variants.none m main fun c => (main_chain c).trans rfl)
    (fun _ w => Fin.elim0 w) (fun c k => by obtain rfl : c = 0 := Subsingleton.elim _ _; rfl)
    (fun c W => W main_v0 = batchOut m hr c) (inv_in m hr) (inv_out m hr) _ ?_
  rintro r ⟨⟨hf, hw⟩, hs⟩
  refine ⟨fun c => ⟨?_, ?_, ?_, ?_⟩, hs⟩
  · obtain ⟨W, hW, hb⟩ := hw c
    rw [hb main_v0 (by decide)]; exact hW
  · exact (hf c).2 main_arg0 (Finset.mem_sdiff.mpr ⟨Pipeline.mem_restRefs_of main_arg0 (by decide) (fun w => Fin.elim0 w), by decide⟩)
  · exact (hf c).2 main_arg1 (Finset.mem_sdiff.mpr ⟨Pipeline.mem_restRefs_of main_arg1 (by decide) (fun w => Fin.elim0 w), by decide⟩)
  · exact (hf c).2 main_arg2 (Finset.mem_sdiff.mpr ⟨Pipeline.mem_restRefs_of main_arg2 (by decide) (fun w => Fin.elim0 w), by decide⟩)

end Cert.KernelIdeal.Sinkhorn
-- ==== Proof.Frames.lean ====
module

public import proofs.«01_k».proof.Defs
public import proofs.«01_k».proof.Proof.Run
public import proofs.«01_k».proof.Proof.Gen.Kernel.Skeleton
public import proofs.«01_k».proof.Proof.Gen.Pre_counts_in_range
public import Idealize.ShloMosaic.Lib.StableHlo.Predicate

@[expose] public section

noncomputable section

/-! The precondition read word by word, and the frames of the two printed kernels. -/

namespace Cert.KernelIdeal.Sinkhorn

open Cert.KernelIdeal Cert.KernelIdeal.Gen
open Idealize.ShloMosaic Idealize.ShloMosaic.TcCoe
open Idealize.SL Idealize.SL.Sem

variable {F : FTy → Type} [FloatOps F]

/-- A conjunction of two flags is set exactly when both are. -/
theorem and_bit (a b : BitVec 1) : IntOp.andi a b = 1#1 ↔ a = 1#1 ∧ b = 1#1 := by
  revert a b; decide

/-- The precondition at every word: the agent count is in range. -/
theorem range_of_pre (A : Vec F S8x2048x2048 .f32) (T1 T2 : Vec F S8 .i32)
    (h : Cert.Pre_counts_in_range.fn A T1 T2 = fun _ => 1#1) (x : S8.Idx) : InRange (T1 x) := by
  have e := congrFun h x
  simp only [Cert.Pre_counts_in_range.fn, andi, cmpi, broadcastInDim, constantI, IntOp.cmpi, and_bit, StableHlo.Predicate.ofBool_eq_one_iff,
    BitVec.sle, BitVec.slt, decide_eq_true_eq] at e
  have lo : ∀ w : BitVec 32, decide ((0#32).toInt ≤ w.toInt) = true → 0 ≤ w.toInt := fun _ h => by simpa using h
  have hi : ∀ w : BitVec 32, decide (w.toInt < (2048#32).toInt) = true → w.toInt < 2048 := fun _ h => by simpa using h
  exact ⟨lo _ e.1, hi _ e.2⟩

/-- A table's entry at a grid point is one of its words. -/
theorem countAt_mem (i : grid0.Coords) (T : Vec F S8 .i32) : ∃ x, countAt i T = T x := ⟨_, rfl⟩

/-- The agents' counts are in range at every grid point. -/
theorem count_range (A : Vec F S8x2048x2048 .f32) (T1 T2 : Vec F S8 .i32)
    (h : Cert.Pre_counts_in_range.fn A T1 T2 = fun _ => 1#1) (i : grid0.Coords) : InRange (countAt i T1) := by
  obtain ⟨x, hx⟩ := countAt_mem i T1
  rw [hx]; exact range_of_pre A T1 T2 h x

/-- The ideal kernel's frame. -/
theorem frame_ideal : Cert.quiescent_KernelIdeal (hKernelIdeal := Cert.KernelIdeal.Gen.facts) (hPre_counts_in_range := Cert.Pre_counts_in_range.Gen.facts) :=
  fun m g h => (θ_run _ _ _).mono (fun _ hp => ⟨fun c => (hp.1 c).2, hp.2⟩)
    (run_main m g fun c => count_range _ _ _ (h c))

set_option maxRecDepth 65536 in
set_option maxHeartbeats 0 in
/-- The two printed kernels have the same body. -/
theorem defs₀_twin : Cert.Kernel.defs₀ (F := F) = Cert.KernelIdeal.defs₀ (F := F) := rfl

/-- The printed kernel's frame at bit patterns: it is the same program. -/
theorem frame_bits : Cert.quiescent_Kernel (hKernel := Cert.Kernel.Gen.facts) (hPre_counts_in_range := Cert.Pre_counts_in_range.Gen.facts) :=
  fun m g h => by
    have key := run_main (F := Bits) m g fun c => count_range _ _ _ (h c)
    unfold Cert.Kernel.defs
    rw [defs₀_twin]
    refine (θ_run _ _ _).mono (fun _ hp => ?_) key
    exact ⟨fun c => (hp.1 c).2, hp.2⟩

end Cert.KernelIdeal.Sinkhorn
-- ==== Proof.Reference.lean ====
/-
  The reference program's frame: its generated run (every execution terminates, with the arguments unchanged), and its
  counters, of which it declares none.
-/
module

public import proofs.«01_k».proof.Defs
public import proofs.«01_k».proof.Proof.Gen.Pre_counts_in_range
public import proofs.«01_k».proof.Proof.Gen.ReferenceIdeal.Run

@[expose] public section

noncomputable section

namespace Cert.Proof

open Idealize.ShloMosaic Idealize.SL.Sem

/-- Every execution of the reference terminates, leaves its arguments as they were and every counter at zero. -/
theorem frame_reference : Cert.quiescent_ReferenceIdeal (hReferenceIdeal := Cert.ReferenceIdeal.Gen.facts)
    (hPre_counts_in_range := Cert.Pre_counts_in_range.Gen.facts) := fun m ρ _ =>
  (θ_run Cert.ReferenceIdeal.defs _ _).mono
    (fun r h => ⟨fun c => (h c).2, sem_eq_zero_of_no_sems (by decide) r.2⟩)
    (Cert.ReferenceIdeal.Value.run (F := Ideal) m ρ)

end Cert.Proof

end
-- ==== Proof.Softmax.lean ====
/-
  The masked softmax of a finite family of extended reals, as the reference computes it (the maximum subtracted first) and
  as the kernel computes it from the second one on (nothing subtracted): the two agree on real entries, and every masked
  softmax is real. Then the Sinkhorn iteration of a matrix, rows and columns in turn.
-/
module

public import Idealize.ShloMosaic.PureOps.Ideal.Laws
public import Idealize.ShloMosaic.Lib.IdealHost

@[expose] public section

noncomputable section

namespace Cert.Sinkhorn

open Idealize.ShloMosaic
open scoped BigOperators

/-- The divisor of a softmax: the sum, or one where the sum is not positive. -/
def den (s : EReal) : EReal := if 0 < s then s else 1

/-- The maximum, or zero where it is infinite. -/
def cap (m : EReal) : EReal := if max m (-m) < ⊤ then m else 0

theorem cap_real (m : EReal) : ∃ r : ℝ, cap m = r := by
  unfold cap
  induction m with
  | bot => exact ⟨0, by simp⟩
  | top => exact ⟨0, by simp⟩
  | coe r =>
    refine ⟨r, if_pos ?_⟩
    rw [max_lt_iff]
    exact ⟨EReal.coe_lt_top r, by rw [← EReal.coe_neg]; exact EReal.coe_lt_top _⟩

theorem den_ne_zero (s : EReal) : den s ≠ 0 := by
  unfold den
  split
  · next h => exact h.ne'
  · exact one_ne_zero

/-- Nothing divided by a softmax's divisor is nothing. -/
theorem zero_div_den (s : EReal) : Ideal.div 0 (den s) = 0 := Ideal.zero_div (den_ne_zero s)

/-- An exponential is not negative. -/
theorem exp_nonneg (x : EReal) : 0 ≤ Ideal.exp x := by
  induction x with
  | bot => simp
  | top => simp
  | coe r => simp only [Ideal.exp_coe]; exact_mod_cast (Real.exp_pos r).le

/-- A sum of reals is real. -/
theorem sum_coe {ι : Type} (s : Finset ι) (f : ι → ℝ) : ∑ k ∈ s, (f k : EReal) = ((∑ k ∈ s, f k : ℝ) : EReal) := by
  classical
  induction s using Finset.induction_on with
  | empty => simp
  | insert a s ha ih => rw [Finset.sum_insert ha, Finset.sum_insert ha, ih, EReal.coe_add]

/-- A quotient of reals by a divisor that is not zero. -/
theorem div_coe_coe (a : ℝ) {b : ℝ} (hb : b ≠ 0) : Ideal.div (a : EReal) (b : EReal) = ((a / b : ℝ) : EReal) := by
  rw [Ideal.div_coe hb, ← EReal.coe_mul, mul_one_div]

section Family

variable {ι : Type} [Fintype ι] (M : ι → Prop) [DecidablePred M] (x : ι → EReal)

/-- The entries the mask shows, and `-∞` in place of the others. -/
def shown (k : ι) : EReal := if M k then x k else ⊥

/-- The greatest shown entry. -/
def peak : EReal := Finset.univ.fold max ⊥ (shown M x)

/-- The exponential of a shown entry with the maximum subtracted. -/
def weight (k : ι) : EReal := Ideal.exp (shown M x k - cap (peak M x)) * (if M k then 1 else 0)

/-- The masked softmax. -/
def soft (k : ι) : EReal := if M k then Ideal.div (weight M x k) (den (∑ j, weight M x j)) else 0

/-- The masked exponential. -/
def expo (k : ι) : EReal := if M k then Ideal.exp (x k) else 0

variable {M x}

theorem weight_off {k : ι} (h : ¬ M k) : weight M x k = 0 := by
  unfold weight; rw [if_neg h, mul_zero]

theorem weight_on {k : ι} (h : M k) : weight M x k = Ideal.exp (x k - cap (peak M x)) := by
  unfold weight shown; rw [if_pos h, if_pos h, mul_one]

/-- The mask's factor is not needed where hidden entries are `-∞`. -/
theorem weight_eq (k : ι) : Ideal.exp (shown M x k - cap (peak M x)) = weight M x k := by
  by_cases h : M k
  · rw [weight_on h]; unfold shown; rw [if_pos h]
  · rw [weight_off h]; unfold shown; rw [if_neg h]
    obtain ⟨r, hr⟩ := cap_real (peak M x)
    rw [hr, EReal.bot_sub]; rfl

theorem weight_nonneg (k : ι) : 0 ≤ weight M x k := by
  rw [← weight_eq]; exact exp_nonneg _

theorem soft_off {k : ι} (h : ¬ M k) : soft M x k = 0 := if_neg h

/-- The quotient is the softmax at every entry, hidden ones included. -/
theorem soft_quot (k : ι) : Ideal.div (weight M x k) (den (∑ j, weight M x j)) = soft M x k := by
  by_cases h : M k
  · exact (if_pos h).symm
  · rw [soft_off h, weight_off h, zero_div_den]

/-- A masked softmax is real, whatever its entries. -/
theorem soft_real (k : ι) : ∃ r : ℝ, soft M x k = r := by
  rw [← soft_quot]
  have hs : weight M x k ≤ ∑ j, weight M x j :=
    Finset.single_le_sum (f := fun j => weight M x j) (fun j _ => weight_nonneg j) (Finset.mem_univ k)
  have hw := weight_nonneg (M := M) (x := x) k
  generalize (∑ j, weight M x j) = s at hs ⊢
  generalize weight M x k = w at hs hw ⊢
  induction s with
  | bot => exact absurd (hw.trans hs) (by simp)
  | top =>
    refine ⟨0, ?_⟩
    unfold den Ideal.div
    simp
  | coe s =>
    induction w with
    | bot => exact absurd hw (by simp)
    | top => exact absurd hs (by simp)
    | coe w =>
      unfold den
      split
      · next h =>
        have h' : (0 : ℝ) < s := by exact_mod_cast h
        exact ⟨_, div_coe_coe w h'.ne'⟩
      · refine ⟨w / 1, ?_⟩
        exact div_coe_coe w one_ne_zero

/-- On real entries the softmax does without the maximum. -/
theorem soft_eq (hx : ∀ k, ∃ r : ℝ, x k = r) (k : ι) : Ideal.div (expo M x k) (den (∑ j, expo M x j)) = soft M x k := by
  choose r hr using hx
  obtain ⟨m, hm⟩ := cap_real (peak M x)
  set g : ι → ℝ := fun j => if M j then Real.exp (r j) else 0 with hg
  have hg0 : ∀ j, 0 ≤ g j := fun j => by
    simp only [hg]; split
    · exact (Real.exp_pos _).le
    · exact le_rfl
  have he : ∀ j, expo M x j = (g j : EReal) := fun j => by
    simp only [hg, expo, hr]; split <;> simp
  have hw : ∀ j, weight M x j = ((Real.exp (-m) * g j : ℝ) : EReal) := fun j => by
    by_cases h : M j
    · rw [weight_on h, hm, hr, ← EReal.coe_sub, Ideal.exp_coe]
      simp only [hg, if_pos h]
      rw [sub_eq_add_neg, Real.exp_add, mul_comm]
    · rw [weight_off h]; simp [hg, if_neg h]
  rw [← soft_quot, hw k, he k, Finset.sum_congr rfl fun j _ => hw j, Finset.sum_congr rfl fun j _ => he j, sum_coe, sum_coe,
    ← Finset.mul_sum]
  have hc := Real.exp_pos (-m)
  have hk : g k ≤ ∑ j, g j := Finset.single_le_sum (fun j _ => hg0 j) (Finset.mem_univ k)
  generalize Real.exp (-m) = c at hc ⊢
  have hk0 := hg0 k
  generalize (∑ j, g j) = s at hk ⊢
  generalize g k = a at hk hk0 ⊢
  by_cases hs : 0 < s
  · have h1 : den ((s : ℝ) : EReal) = s := if_pos (by exact_mod_cast hs)
    have h2 : den ((c * s : ℝ) : EReal) = ((c * s : ℝ) : EReal) := if_pos (by exact_mod_cast mul_pos hc hs)
    rw [h1, h2, div_coe_coe _ hs.ne', div_coe_coe _ (mul_pos hc hs).ne', mul_div_mul_left _ _ hc.ne']
  · have ha : a = 0 := le_antisymm (hk.trans (not_lt.1 hs)) hk0
    rw [ha, mul_zero, EReal.coe_zero, zero_div_den, zero_div_den]

end Family

section Words

/-- The pattern of `-∞`, -/
theorem ofBits_bot : Ideal.ofBits .f32 0xFF800000#32 = ⊥ := by simp [Ideal.ofBits, Ideal.ieee]

/-- and of `∞`. -/
theorem ofBits_top : Ideal.ofBits .f32 0x7F800000#32 = ⊤ := by simp [Ideal.ofBits, Ideal.ieee]

/-- A choice between two values by a flag that says whether `p` holds. -/
theorem pick_iff {α : Type} {p : Prop} [Decidable p] {c : BitVec 1} (h : c = 1#1 ↔ p) (a b : α) :
    Scalar.select c a b = if p then a else b := by
  unfold Scalar.select
  by_cases hp : p
  · rw [if_pos hp]; exact if_pos (h.2 hp)
  · rw [if_neg hp]; exact if_neg fun hc => hp (h.1 hc)

theorem bit_decide (p : Prop) [Decidable p] : BitVec.ofBool (decide p) = 1#1 ↔ p := by
  by_cases h : p <;> simp [h]

/-- The divisor as the programs choose it. -/
theorem pick_den (s : EReal) :
    Scalar.select (Ideal.cmp .ogt s (Ideal.ofBits .f32 0x00000000#32)) s (Ideal.ofBits .f32 0x3F800000#32) = den s := by
  rw [Ideal.ofBits_zero_f32, Ideal.ofBits_one_f32]
  exact pick_iff (bit_decide (0 < s)) s 1

/-- The finite maximum as the reference chooses it, -/
theorem pick_cap (m : EReal) :
    Scalar.select (Ideal.cmp .olt (max m (-m)) (Ideal.ofBits .f32 0x7F800000#32)) m (Ideal.ofBits .f32 0x00000000#32) = cap m := by
  rw [Ideal.ofBits_zero_f32, ofBits_top]
  exact pick_iff (bit_decide (max m (-m) < ⊤)) m 0

/-- and as the kernel does. -/
theorem pick_cap_weird (m : EReal) :
    Scalar.select (IntOp.xori (BitVec.ofBool (decide (m = ⊤ ∨ m = ⊥))) 1#1) m (Ideal.ofBits .f32 0x00000000#32) = cap m := by
  rw [Ideal.ofBits_zero_f32]
  unfold cap
  induction m with
  | bot => simp [IntOp.xori, Scalar.select]
  | top => simp [IntOp.xori, Scalar.select]
  | coe r =>
    rw [if_pos (max_lt_iff.2 ⟨EReal.coe_lt_top r, by rw [← EReal.coe_neg]; exact EReal.coe_lt_top _⟩)]
    simp [IntOp.xori, Scalar.select]

/-- A flag as a number. -/
theorem flag_value (c : BitVec 1) : (((c.toNat : ℝ)) : EReal) = if c = 1#1 then 1 else 0 := by
  have h : c = 0#1 ∨ c = 1#1 := by revert c; decide
  rcases h with h | h <;> simp [h]

/-- Number `i` lies below the count `v`, as words compare with sign. -/
def below (v : BitVec 32) (i : ℕ) : Prop := IntOp.cmpi .slt (BitVec.ofNat 32 i) v = 1#1

instance (v : BitVec 32) (i : ℕ) : Decidable (below v i) := inferInstanceAs (Decidable (_ = _))

/-- The entry in row `i` and column `j` belongs to an agent and a task. -/
def live (v w : BitVec 32) {m n : ℕ} (i : Fin m) (j : Fin n) : Prop := below v i.val ∧ below w j.val

instance (v w : BitVec 32) {m n : ℕ} (i : Fin m) (j : Fin n) : Decidable (live v w i j) := inferInstanceAs (Decidable (_ ∧ _))

/-- Dividing by one changes nothing. -/
theorem div_one' (x : EReal) : Ideal.div x (Ideal.ofBits .f32 0x3F800000#32) = x := by
  rw [Ideal.ofBits_one_f32]; simp [Ideal.div]

end Words

section Matrix

variable {m n : ℕ} (M : Fin m → Fin n → Prop) [∀ i j, Decidable (M i j)]

/-- The softmax of every row, -/
def rows (X : Fin m → Fin n → EReal) (i : Fin m) (j : Fin n) : EReal := soft (M i) (X i) j

/-- and of every column. -/
def cols (X : Fin m → Fin n → EReal) (i : Fin m) (j : Fin n) : EReal := soft (fun i => M i j) (fun i => X i j) i

/-- The rows, then the columns. -/
def round (X : Fin m → Fin n → EReal) : Fin m → Fin n → EReal := cols M (rows M X)

/-- Five rounds. -/
def sinkhorn (X : Fin m → Fin n → EReal) : Fin m → Fin n → EReal :=
  round M (round M (round M (round M (round M X))))

/-- Equal masks give equal results. -/
theorem sinkhorn_congr {M' : Fin m → Fin n → Prop} [∀ i j, Decidable (M' i j)] (h : ∀ i j, M i j ↔ M' i j)
    (X : Fin m → Fin n → EReal) : sinkhorn M X = sinkhorn M' X := by
  obtain rfl : M = M' := funext fun i => funext fun j => propext (h i j)
  congr!

/-- A matrix of reals that is zero where the mask hides. -/
structure Tame (X : Fin m → Fin n → EReal) : Prop where
  real : ∀ i j, ∃ r : ℝ, X i j = r
  off : ∀ i j, ¬ M i j → X i j = 0

theorem tame_rows (X : Fin m → Fin n → EReal) : Tame M (rows M X) :=
  ⟨fun i j => soft_real j, fun i j h => soft_off (M := M i) h⟩

theorem tame_cols (X : Fin m → Fin n → EReal) : Tame M (cols M X) :=
  ⟨fun i j => soft_real i, fun i j h => soft_off (M := fun i => M i j) h⟩

end Matrix

end Cert.Sinkhorn

end
-- ==== Proof.StripValue.lean ====
module

public import proofs.«01_k».proof.Proof.Passes
public import proofs.«01_k».proof.Proof.Softmax
public import Idealize.ShloMosaic.Lib.Pointwise

@[expose] public section

noncomputable section

/-! What the kernel's passes make of one strip of 256 rows, entry by entry, over the extended reals. -/

namespace Cert.KernelIdeal.Sinkhorn

open Cert.KernelIdeal Cert.KernelIdeal.Gen Cert.Sinkhorn
open Idealize.ShloMosaic

/-- A strip, a value for each of its rows, a value for each column. -/
abbrev Strip : Type := FVec Ideal S256x2048 .f32
abbrev PerRow : Type := FVec Ideal S256x1 .f32
abbrev PerCol : Type := FVec Ideal S1x2048 .f32

/-- A strip's row sums, -/
def stripSum (w : Strip) : PerRow :=
  shapeCast S256x1 (multiReduction .add [1] S256 w 0x00000000#32 reduces_S256x2048_S256 (.inl rfl) rfl) shapeCasts_S256_S256x1

/-- its row maxima, -/
def stripPeak (w : Strip) : PerRow :=
  shapeCast S256x1 (multiReduction .maximumf [1] S256 w 0xFF800000#32 reduces_S256x2048_S256 (.inl rfl) rfl) shapeCasts_S256_S256x1

/-- and its column sums. -/
def stripColSum (w : Strip) : PerCol :=
  shapeCast S1x2048 (multiReduction .add [0] S2048 w 0x00000000#32 reduces_S256x2048_S2048 (.inl rfl) rfl) shapeCasts_S2048_S1x2048

/-- A value of each row, and of each column, over a strip. -/
def overRows (x : PerRow) : Strip := broadcastTo S256x2048 x broadcasts_S256x1_S256x2048
def overCols (x : PerCol) : Strip := broadcastTo S256x2048 x broadcasts_S1x2048_S256x2048

/-- A strip copied as it is. -/
def same (x : Strip) : Strip := shapeCast S256x2048 x shapeCasts_S256x2048_S256x2048

theorem stripSum_apply (w : Strip) (r : Fin 256) : stripSum w (ix2 r 0) = ∑ j : Fin 2048, w (ix2 r j) := by
  pointwise [stripSum]
theorem stripPeak_apply (w : Strip) (r : Fin 256) :
    stripPeak w (ix2 r 0) = Finset.univ.fold max ⊥ (fun j : Fin 2048 => w (ix2 r j)) := by
  pointwise [stripPeak]
  rw [ofBits_bot]
theorem stripColSum_apply (w : Strip) (j : Fin 2048) : stripColSum w (ix2 0 j) = ∑ r : Fin 256, w (ix2 r j) := by
  pointwise [stripColSum]
theorem overRows_apply (x : PerRow) (r : Fin 256) (j : Fin 2048) : overRows x (ix2 r j) = x (ix2 r 0) := by
  pointwise [overRows]
theorem overCols_apply (x : PerCol) (r : Fin 256) (j : Fin 2048) : overCols x (ix2 r j) = x (ix2 0 j) := by
  pointwise [overCols]
theorem same_eq (x : Strip) : same x = x := by
  funext k; rw [← ix2_eta k]; pointwise [same]

/-- Which rows of strip `n` belong to an agent. -/
def rowFlag (v : BitVec 32) (n : ℕ) : IVec S256x1 1 :=
  cmpi .slt (addi rowIds (broadcast S256x1 (Scalar.muli (Scf.iv 0#32 1#32 n) 256#32))) (broadcast S256x1 v)
/-- Which columns belong to a task. -/
def colFlag (v : BitVec 32) : IVec S1x2048 1 := cmpi .slt (iota .tc S1x2048 32 [1] iota_S1x2048_d1_w32) (broadcast S1x2048 v)

theorem rowFlag_iff (v : BitVec 32) (n : ℕ) (r : Fin 256) : rowFlag v n (ix2 r 0) = 1#1 ↔ below v (256 * n + r.val) := by
  have hw : IntOp.addi (BitVec.ofNat 32 r.val) (Scalar.muli (Scf.iv 0#32 1#32 n) 256#32) = BitVec.ofNat 32 (256 * n + r.val) := by
    apply BitVec.eq_of_toNat_eq
    simp [IntOp.addi, Scalar.muli, IntOp.muli, Scf.iv]
    omega
  have key : rowFlag v n (ix2 r 0) = IntOp.cmpi .slt (IntOp.addi (BitVec.ofNat 32 r.val) (Scalar.muli (Scf.iv 0#32 1#32 n) 256#32)) v := by
    pointwise [rowFlag]
  rw [key, hw]; exact Iff.rfl

theorem colFlag_iff (v : BitVec 32) (j : Fin 2048) : colFlag v (ix2 0 j) = 1#1 ↔ below v j.val := by
  have key : colFlag v (ix2 0 j) = IntOp.cmpi .slt (BitVec.ofNat 32 j.val) v := by
    pointwise [colFlag]
  rw [key]; exact Iff.rfl

/-- A choice of two words by flags. -/
def choose {s : Shape} (c : IVec s 1) (a b : BitVec 32) : FVec Ideal s .f32 :=
  select c (broadcast s (Scalar.ofBits .f32 a)) (broadcast s (Scalar.ofBits .f32 b))

theorem choose_apply {s : Shape} (c : IVec s 1) (a b : BitVec 32) (k : s.Idx) {p : Prop} [Decidable p] (h : c k = 1#1 ↔ p) :
    choose c a b k = if p then Ideal.ofBits .f32 a else Ideal.ofBits .f32 b := pick_iff h _ _

/-- The divisor of a family of sums. -/
def dens {s : Shape} (x : FVec Ideal s .f32) : FVec Ideal s .f32 :=
  select (cmpf .ogt x (broadcast s (Scalar.ofBits .f32 0x00000000#32))) x (broadcast s (Scalar.ofBits .f32 0x3F800000#32))

theorem dens_apply {s : Shape} (x : FVec Ideal s .f32) (k : s.Idx) : dens x k = den (x k) := pick_den (x k)

/-- The finite maxima. -/
def caps (x : PerRow) : PerRow :=
  select (xori (weird x) (constantI S256x1 1 1#1)) x (broadcast S256x1 (Scalar.ofBits .f32 0x00000000#32))

theorem caps_apply (x : PerRow) (k : S256x1.Idx) : caps x k = cap (x k) := pick_cap_weird (x k)

/-- A strip with its hidden entries sent to `-∞`, as the first pass does it. -/
def biased (v w : BitVec 32) (n : ℕ) (x : Strip) : Strip :=
  addf (addf x (overRows (choose (rowFlag v n) 0x00000000#32 0xFF800000#32))) (overCols (choose (colFlag w) 0x00000000#32 0xFF800000#32))

/-- A strip's exponentials with the hidden entries set to zero. -/
def masked (v w : BitVec 32) (n : ℕ) (x : Strip) : Strip :=
  mulf (mulf (exp x) (overRows (choose (rowFlag v n) 0x3F800000#32 0x00000000#32))) (overCols (choose (colFlag w) 0x3F800000#32 0x00000000#32))

/-- The passes' strips in these terms. -/
theorem firstG_eq (v w : BitVec 32) (t : Fin (k0_t3_loop v).trips) (x : Strip) : firstG (F := Ideal) v w t x
    = same (divf (exp (subf (biased v w t.val x) (overRows (caps (stripPeak (biased v w t.val x))))))
        (overRows (dens (stripSum (exp (subf (biased v w t.val x) (overRows (caps (stripPeak (biased v w t.val x))))))))))  := rfl
theorem colG_eq (v w : BitVec 32) (t : Fin (k0_t3_loop v).trips) (x : Strip) : colG (F := Ideal) v w t x = same (masked v w t.val x) := rfl
theorem colH_eq (v w : BitVec 32) (t : Fin (k0_t3_loop v).trips) (acc : PerCol) (x : Strip) :
    colH (F := Ideal) v w t acc x = addf acc (stripColSum (masked v w t.val x)) := rfl
theorem rowG_eq (v w : BitVec 32) (s : PerCol) (t : Fin (k0_t3_loop v).trips) (x : Strip) : rowG (F := Ideal) v w s t x
    = same (divf (masked v w t.val (divf x (overCols (dens s)))) (overRows (dens (stripSum (masked v w t.val (divf x (overCols (dens s)))))))) := rfl
theorem last_eq (s : PerCol) (x : Strip) : k0_pay55 (F := Ideal) s x = same (divf x (overCols (dens s))) := rfl
theorem zeros_apply (k : S256x2048.Idx) : k0_pay3 (F := Ideal) k = 0 := by
  have h : k0_pay3 (F := Ideal) = same (broadcast S256x2048 (Scalar.ofBits .f32 0x00000000#32)) := rfl
  rw [h, same_eq]; exact Ideal.ofBits_zero_f32
theorem start_apply (k : S1x2048.Idx) : k0_pay7 (F := Ideal) k = 0 := Ideal.ofBits_zero_f32

/-- The mask of row `r` of strip `n`. -/
abbrev liveRow (v w : BitVec 32) (n : ℕ) (r : Fin 256) (j : Fin 2048) : Prop := below v (256 * n + r.val) ∧ below w j.val

theorem biased_apply (v w : BitVec 32) (n : ℕ) (x : Strip) (r : Fin 256) (j : Fin 2048) :
    biased v w n x (ix2 r j) = shown (liveRow v w n r) (fun j => x (ix2 r j)) j := by
  unfold biased
  rw [addf_apply, addf_apply, overRows_apply, overCols_apply, choose_apply _ _ _ _ (rowFlag_iff v n r), choose_apply _ _ _ _ (colFlag_iff w j),
    ofBits_bot, Ideal.ofBits_zero_f32]
  unfold shown
  by_cases hr : below v (256 * n + r.val) <;> by_cases hc : below w j.val <;> simp [hr, hc, liveRow]

theorem masked_apply (v w : BitVec 32) (n : ℕ) (x : Strip) (r : Fin 256) (j : Fin 2048) :
    masked v w n x (ix2 r j) = expo (liveRow v w n r) (fun j => x (ix2 r j)) j := by
  unfold masked
  rw [mulf_apply, mulf_apply, overRows_apply, overCols_apply, choose_apply _ _ _ _ (rowFlag_iff v n r), choose_apply _ _ _ _ (colFlag_iff w j),
    Ideal.ofBits_one_f32, Ideal.ofBits_zero_f32]
  unfold expo
  by_cases hr : below v (256 * n + r.val) <;> by_cases hc : below w j.val <;> simp [hr, hc, liveRow] <;> rfl

/-- The first pass makes each row of a strip its softmax, -/
theorem firstG_apply (v w : BitVec 32) (t : Fin (k0_t3_loop v).trips) (x : Strip) (r : Fin 256) (j : Fin 2048) :
    firstG (F := Ideal) v w t x (ix2 r j) = soft (liveRow v w t.val r) (fun j => x (ix2 r j)) j := by
  have hb : (fun j => biased v w t.val x (ix2 r j)) = shown (liveRow v w t.val r) (fun j => x (ix2 r j)) :=
    funext fun j => biased_apply v w t.val x r j
  have he : ∀ j, exp (subf (biased v w t.val x) (overRows (caps (stripPeak (biased v w t.val x))))) (ix2 r j)
      = weight (liveRow v w t.val r) (fun j => x (ix2 r j)) j := fun j => by
    rw [← weight_eq]
    refine congrArg Ideal.exp ?_
    rw [subf_apply, overRows_apply, caps_apply, stripPeak_apply, hb, biased_apply]
    rfl
  rw [firstG_eq, same_eq, ← soft_quot]
  refine congr_arg₂ Ideal.div (he j) ?_
  rw [overRows_apply, dens_apply, stripSum_apply]
  exact congrArg den (Finset.sum_congr rfl fun j _ => he j)

/-- a column pass its masked exponentials, -/
theorem colG_apply (v w : BitVec 32) (t : Fin (k0_t3_loop v).trips) (x : Strip) (r : Fin 256) (j : Fin 2048) :
    colG (F := Ideal) v w t x (ix2 r j) = expo (liveRow v w t.val r) (fun j => x (ix2 r j)) j := by
  rw [colG_eq, same_eq, masked_apply]

/-- adding them up by columns, -/
theorem colH_apply (v w : BitVec 32) (t : Fin (k0_t3_loop v).trips) (acc : PerCol) (x : Strip) (j : Fin 2048) :
    colH (F := Ideal) v w t acc x (ix2 0 j) = acc (ix2 0 j) + ∑ r : Fin 256, expo (liveRow v w t.val r) (fun j => x (ix2 r j)) j := by
  rw [colH_eq, addf_apply, stripColSum_apply]
  exact congrArg (acc (ix2 0 j) + ·) (Finset.sum_congr rfl fun r _ => masked_apply v w t.val x r j)

/-- a row pass divides by the column sums and makes each row the quotient of its masked exponentials by their sum, -/
theorem rowG_apply (v w : BitVec 32) (s : PerCol) (t : Fin (k0_t3_loop v).trips) (x : Strip) (r : Fin 256) (j : Fin 2048) :
    rowG (F := Ideal) v w s t x (ix2 r j)
      = Ideal.div (expo (liveRow v w t.val r) (fun j => Ideal.div (x (ix2 r j)) (den (s (ix2 0 j)))) j)
        (den (∑ j, expo (liveRow v w t.val r) (fun j => Ideal.div (x (ix2 r j)) (den (s (ix2 0 j)))) j)) := by
  have hd : (fun j => divf x (overCols (dens s)) (ix2 r j)) = fun j : Fin 2048 => Ideal.div (x (ix2 r j)) (den (s (ix2 0 j))) :=
    funext fun j => by rw [divf_apply, overCols_apply, dens_apply]; rfl
  have hm : ∀ j, masked v w t.val (divf x (overCols (dens s))) (ix2 r j)
      = expo (liveRow v w t.val r) (fun j => Ideal.div (x (ix2 r j)) (den (s (ix2 0 j)))) j := fun j => by
    rw [masked_apply, hd]
  rw [rowG_eq, same_eq]
  refine congr_arg₂ Ideal.div (hm j) ?_
  rw [overRows_apply, dens_apply, stripSum_apply]
  exact congrArg den (Finset.sum_congr rfl fun j _ => hm j)

/-- and the last pass only divides. -/
theorem last_apply (s : PerCol) (x : Strip) (r : Fin 256) (j : Fin 2048) :
    k0_pay55 (F := Ideal) s x (ix2 r j) = Ideal.div (x (ix2 r j)) (den (s (ix2 0 j))) := by
  rw [last_eq, same_eq, divf_apply, overCols_apply, dens_apply]; rfl

end Cert.KernelIdeal.Sinkhorn
-- ==== Proof.SweepValue.lean ====
module

public import proofs.«01_k».proof.Proof.StripValue

@[expose] public section

noncomputable section

/-! What the kernel's passes make of a whole sample: five rounds of row and column softmax. -/

namespace Cert.KernelIdeal.Sinkhorn

open Cert.KernelIdeal Cert.KernelIdeal.Gen Cert.Sinkhorn
open Idealize.ShloMosaic

/-- Row `r` of strip `n`. -/
def rowAt (n : ℕ) (hn : n < 8) (r : Fin 256) : Fin 2048 := ⟨256 * n + r.val, by omega⟩

section Geometry

variable (off : Fin 2 → ℕ) (inb : ∀ a, off a + S256x2048.size a ≤ S2048x2048.size a) (n : ℕ) (hn : n < 8) (ho : off = ![256 * n, 0])

/-- The rectangle at row `256 n`, -/
abbrev rowsRect : Rect S2048x2048 := Rect.unit (s := S2048x2048) off S256x2048.size inb

include hn ho

/-- its entries' places, -/
theorem strip_emb (r : Fin 256) (j : Fin 2048) : (xsM.access (rowsRect off inb)).emb (ix2 r j) = (ix2 (rowAt n hn r) j : S2048x2048.Idx) := by
  subst ho
  funext a
  apply Fin.ext
  match a with
  | 0 => show 256 * n + 1 * r.val = 256 * n + r.val; omega
  | 1 => show 0 + 1 * j.val = j.val; omega

/-- what is read there, -/
theorem strip_read (f : Sample Ideal) (r : Fin 256) (j : Fin 2048) :
    (xsM.access (rowsRect off inb)).read (Elt Ideal) f (ix2 r j) = f (ix2 (rowAt n hn r) j) := by
  rw [View.read_apply, strip_emb off inb n hn ho]; rfl

/-- what a write leaves there, -/
theorem strip_write_in (f : Sample Ideal) (w : Strip) (r : Fin 256) (j : Fin 2048) :
    (xsM.access (rowsRect off inb)).write (Elt Ideal) f w Finset.univ (ix2 (rowAt n hn r) j : S2048x2048.Idx) = w (ix2 r j) := by
  rw [← strip_emb off inb n hn ho, View.write_emb_of_mem _ _ (Finset.mem_univ _)]; rfl

/-- and what it leaves elsewhere. -/
theorem strip_write_out (f : Sample Ideal) (w : Strip) (i j : Fin 2048) (hi : i.val / 256 ≠ n) :
    (xsM.access (rowsRect off inb)).write (Elt Ideal) f w Finset.univ (ix2 i j : S2048x2048.Idx) = f (ix2 i j) := by
  refine View.write_of_not_mem _ _ _ ?_
  intro hm
  obtain ⟨x, -, hx⟩ := Finset.mem_map.1 hm
  obtain ⟨r, l, rfl⟩ : ∃ (r : Fin 256) (l : Fin 2048), x = ix2 r l := ⟨x 0, x 1, (ix2_eta x).symm⟩
  rw [strip_emb off inb n hn ho] at hx
  have h1 : 256 * n + r.val = i.val := congrArg (fun k : S2048x2048.Idx => (k 0).val) hx
  omega

/-- Both at once. -/
theorem strip_write (f : Sample Ideal) (w : Strip) (G : Fin 2048 → Fin 2048 → EReal) (hG : ∀ r j, w (ix2 r j) = G (rowAt n hn r) j)
    (i j : Fin 2048) :
    (xsM.access (rowsRect off inb)).write (Elt Ideal) f w Finset.univ (ix2 i j : S2048x2048.Idx)
      = if i.val / 256 = n then G i j else f (ix2 i j) := by
  split
  · next h =>
    have hi : i = rowAt n hn ⟨i.val % 256, Nat.mod_lt _ (by norm_num)⟩ := Fin.ext (by show i.val = 256 * n + i.val % 256; omega)
    rw [hi, strip_write_in off inb n hn ho, hG]
  · next h => exact strip_write_out off inb n hn ho f w i j h

end Geometry

/-- A trip's effect on the sample, and on the carried value. -/
theorem sweepStep_fst {F : FTy → Type} [FloatOps F] {σ : Type} (v : Elt F .i32) (hw : k0_chk1 v)
    (g : Fin (k0_t3_loop v).trips → Vec F S256x2048 .f32 → FVec F S256x2048 .f32)
    (h : Fin (k0_t3_loop v).trips → σ → Vec F S256x2048 .f32 → σ) (t : Fin (k0_t3_loop v).trips) (s : Sample F × σ) :
    (sweepStep v hw g h t s).1 = putStrip v hw t s.1 (g t (getStrip v hw t s.1)) := by
  unfold sweepStep; dsimp only
theorem sweepStep_snd {F : FTy → Type} [FloatOps F] {σ : Type} (v : Elt F .i32) (hw : k0_chk1 v)
    (g : Fin (k0_t3_loop v).trips → Vec F S256x2048 .f32 → FVec F S256x2048 .f32)
    (h : Fin (k0_t3_loop v).trips → σ → Vec F S256x2048 .f32 → σ) (t : Fin (k0_t3_loop v).trips) (s : Sample F × σ) :
    (sweepStep v hw g h t s).2 = h t s.2 (getStrip v hw t s.1) := by
  unfold sweepStep; dsimp only

section Sweep

variable {σ : Type} (v : BitVec 32) (hv : InRange v) (hw : k0_chk1 v)

include hv

/-- A pass's trips run over at most eight strips. -/
theorem trip_lt (t : Fin (k0_t3_loop v).trips) : t.val < 8 :=
  lt_of_lt_of_le (lt_of_lt_of_eq t.2 (trips_sweep v hv)) (Nat.lt_succ_iff.mp (strips_lt v hv))

theorem getStrip_apply (t : Fin (k0_t3_loop v).trips) (f : Sample Ideal) (r : Fin 256) (j : Fin 2048) :
    getStrip v hw t f (ix2 r j) = f (ix2 (rowAt t.val (trip_lt v hv t) r) j) :=
  strip_read _ _ t.val _ (off_sweep v hv t) f r j

theorem putStrip_apply (t : Fin (k0_t3_loop v).trips) (f : Sample Ideal) (w : Strip) (G : Fin 2048 → Fin 2048 → EReal)
    (hG : ∀ r j, w (ix2 r j) = G (rowAt t.val (trip_lt v hv t) r) j) (i j : Fin 2048) :
    putStrip v hw t f w (ix2 i j) = if i.val / 256 = t.val then G i j else f (ix2 i j) :=
  strip_write _ _ t.val _ (off_sweep v hv t) f w G hG i j

variable (init : σ) (g : Fin (k0_t3_loop v).trips → Strip → Strip) (h : Fin (k0_t3_loop v).trips → σ → Strip → σ) (f : Sample Ideal)
  (G : Fin 2048 → Fin 2048 → EReal) (hG : ∀ t r j, g t (getStrip v hw t f) (ix2 r j) = G (rowAt t.val (trip_lt v hv t) r) j)

/-- A strip that no earlier trip wrote reads as at the start. -/
theorem getStrip_congr (t : Fin (k0_t3_loop v).trips) (f' : Sample Ideal)
    (hf : ∀ i j : Fin 2048, f' (ix2 i j) = if i.val / 256 < t.val then G i j else f (ix2 i j)) :
    getStrip v hw t f' = getStrip v hw t f := by
  funext x
  obtain ⟨r, l, rfl⟩ : ∃ (r : Fin 256) (l : Fin 2048), x = ix2 r l := ⟨x 0, x 1, (ix2_eta x).symm⟩
  rw [getStrip_apply v hv hw, getStrip_apply v hv hw, hf, if_neg]
  show ¬ (256 * t.val + r.val) / 256 < t.val
  omega

include hG

/-- After `k` trips the first `k` strips are rewritten and the others are as they were. -/
theorem sweepTo_apply (k : ℕ) (hk : k ≤ (k0_t3_loop v).trips) (i j : Fin 2048) :
    (sweepTo v hw init g h f k).1 (ix2 i j) = if i.val / 256 < k then G i j else f (ix2 i j) := by
  induction k generalizing i j with
  | zero => unfold sweepTo; rw [iter_zero, if_neg (Nat.not_lt_zero _)]
  | succ k ih =>
    have ih' := ih (Nat.le_of_succ_le hk)
    unfold sweepTo at ih' ⊢
    rw [iter_succ _ _ _ ⟨k, hk⟩, sweepStep_fst]
    rw [getStrip_congr v hv hw f G ⟨k, hk⟩ _ ih', putStrip_apply v hv hw ⟨k, hk⟩ _ _ G (hG ⟨k, hk⟩), ih']
    dsimp only
    by_cases h1 : i.val / 256 = k
    · rw [if_pos h1, if_pos (by omega)]
    · rw [if_neg h1]
      by_cases h2 : i.val / 256 < k
      · rw [if_pos h2, if_pos (by omega)]
      · rw [if_neg h2, if_neg (by omega)]

/-- The carried value takes in the strips as they were at the start. -/
theorem sweepTo_carry (t : Fin (k0_t3_loop v).trips) :
    (sweepTo v hw init g h f (t.val + 1)).2 = h t (sweepTo v hw init g h f t.val).2 (getStrip v hw t f) := by
  have key := getStrip_congr v hv hw f G t _ (sweepTo_apply v hv hw init g h f G hG t.val t.2.le)
  conv_lhs => unfold sweepTo; rw [iter_succ, sweepStep_snd]
  exact congrArg (h t _) key

/-- What a pass leaves of a sample. -/
theorem sweepOut_apply (i j : Fin 2048) :
    (sweepOut v hw init g h f).1 (ix2 i j) = if i.val / 256 < strips v then G i j else f (ix2 i j) := by
  unfold sweepOut
  rw [sweepTo_apply v hv hw init g h f G hG _ le_rfl, trips_sweep v hv]

end Sweep

section Clear

variable (v : BitVec 32) (hv : InRange v) (hw : k0_chk1 v)

include hv

theorem clear_lt (t : Fin (k0_t1_loop v).trips) : strips v + t.val < 8 := by
  have := lt_of_lt_of_eq t.2 (trips_clear v hv); omega

theorem clearStep_apply (t : Fin (k0_t1_loop v).trips) (f : Sample Ideal) (i j : Fin 2048) :
    clearStep v hw t f (ix2 i j) = if i.val / 256 = strips v + t.val then (0 : EReal) else f (ix2 i j) :=
  strip_write _ _ (strips v + t.val) (clear_lt v hv t) (off_clear v hv t) f _ (fun _ _ => 0) (fun r j => zeros_apply _) i j

/-- After `k` trips of the clearing loop `k` more strips are zero. -/
theorem clearTo_apply (f : Sample Ideal) (k : ℕ) (hk : k ≤ (k0_t1_loop v).trips) (i j : Fin 2048) :
    iter (k0_t1_loop v).trips (clearStep v hw) f k (ix2 i j)
      = if strips v ≤ i.val / 256 ∧ i.val / 256 < strips v + k then (0 : EReal) else f (ix2 i j) := by
  induction k generalizing i j with
  | zero => rw [iter_zero, if_neg (by omega)]
  | succ k ih =>
    rw [iter_succ _ _ _ ⟨k, hk⟩, clearStep_apply v hv hw, ih (Nat.le_of_succ_le hk)]
    by_cases h1 : i.val / 256 = strips v + k
    · rw [if_pos h1, if_pos (by omega)]
    · rw [if_neg h1]
      exact if_congr (by omega) rfl rfl

/-- The clearing loop leaves zeros past the live strips. -/
theorem clearOut_apply (f : Sample Ideal) (i j : Fin 2048) :
    clearOut v hw f (ix2 i j) = if i.val / 256 < strips v then f (ix2 i j) else (0 : EReal) := by
  unfold clearOut
  rw [clearTo_apply v hv hw f _ le_rfl, trips_clear v hv]
  have h9 := strips_lt v hv
  have hi : i.val < 2048 := i.isLt
  by_cases h : i.val / 256 < strips v
  · rw [if_pos h, if_neg (by omega)]
  · rw [if_neg h, if_pos (by omega)]

/-- No row past the live strips belongs to an agent. -/
theorem not_below (i : Fin 2048) (hi : ¬ i.val / 256 < strips v) : ¬ below v i.val := by
  obtain ⟨h0, h1⟩ := hv
  have hn := toNat_lt v ⟨h0, h1⟩
  have hs : v.toNat ≤ i.val := by unfold strips at hi; omega
  have hi' : i.val < 2048 := i.isLt
  unfold below IntOp.cmpi
  intro hb
  have hb' : BitVec.slt (BitVec.ofNat 32 i.val) v = true := by
    revert hb
    cases hc : BitVec.slt (BitVec.ofNat 32 i.val) v <;> simp [hc]
  rw [BitVec.slt, decide_eq_true_eq, BitVec.toInt_eq_toNat_bmod, BitVec.toInt_eq_toNat_bmod, BitVec.toNat_ofNat] at hb'
  simp only [Int.bmod] at hb'
  omega

end Clear

end Cert.KernelIdeal.Sinkhorn
-- ==== Proof.SampleValue.lean ====
module

public import proofs.«01_k».proof.Proof.SweepValue
public import Idealize.ShloMosaic.Lib.Pointwise.Sums

@[expose] public section

noncomputable section

/-! The passes of a whole sample: each is a softmax of its rows or of its columns, so together they are five rounds. -/

namespace Cert.KernelIdeal.Sinkhorn

open Cert.KernelIdeal Cert.KernelIdeal.Gen Cert.Sinkhorn
open Idealize.ShloMosaic

/-- A sample as a matrix. -/
def smat (f : Sample Ideal) (i j : Fin 2048) : EReal := f (ix2 i j)

/-- The masked exponentials of a matrix. -/
def expm (M : Fin 2048 → Fin 2048 → Prop) [∀ i j, Decidable (M i j)] (Y : Fin 2048 → Fin 2048 → EReal) (i j : Fin 2048) : EReal :=
  if M i j then Ideal.exp (Y i j) else 0

variable (v w : BitVec 32) (hv : InRange v) (hw : k0_chk1 v)

/-- The state between a column pass and the pass after it: the masked exponentials of `Y`, and their column sums. -/
structure Holds (p : Sample Ideal × PerCol) (Y : Fin 2048 → Fin 2048 → EReal) : Prop where
  entry : smat p.1 = expm (live v w) Y
  total : ∀ j : Fin 2048, p.2 (ix2 0 j) = ∑ i, expm (live v w) Y i j

include hv

/-- No entry past the live strips is live. -/
theorem not_live (i j : Fin 2048) (hi : ¬ i.val / 256 < strips v) : ¬ live v w i j := fun h => not_below v hv i hi h.1

/-- A pass that makes each live strip `G`, on a sample where `G` is what the other strips hold, makes the sample `G`. -/
theorem pass_eq {σ : Type} (init : σ) (g : Fin (k0_t3_loop v).trips → Strip → Strip)
    (h : Fin (k0_t3_loop v).trips → σ → Strip → σ) (f : Sample Ideal) (G : Fin 2048 → Fin 2048 → EReal)
    (hG : ∀ t r j, g t (getStrip v hw t f) (ix2 r j) = G (rowAt t.val (trip_lt v hv t) r) j)
    (hf : ∀ i j, ¬ i.val / 256 < strips v → smat f i j = G i j) : smat (sweepOut v hw init g h f).1 = G := by
  funext i j
  refine (sweepOut_apply v hv hw init g h f G hG i j).trans ?_
  split
  · rfl
  · next hi => exact hf i j hi

/-- A strip's row is the sample's. -/
theorem strip_row (t : Fin (k0_t3_loop v).trips) (f : Sample Ideal) (r : Fin 256) :
    (fun j => getStrip v hw t f (ix2 r j)) = smat f (rowAt t.val (trip_lt v hv t) r) :=
  funext fun j => getStrip_apply v hv hw t f r j

/-- The first pass makes the rows their softmax. -/
theorem first_eq (f : Sample Ideal) : smat (firstOut v w hw (clearOut v hw f)) = rows (live v w) (smat f) := by
  unfold firstOut
  refine pass_eq v hv hw _ _ _ _ _ (fun t r j => ?_) (fun i j hi => ?_)
  · refine (firstG_apply v w t _ r j).trans ?_
    rw [strip_row v hv hw]
    have he : smat (clearOut v hw f) (rowAt t.val (trip_lt v hv t) r) = smat f (rowAt t.val (trip_lt v hv t) r) := funext fun j => by
      refine (clearOut_apply v hv hw f _ _).trans (if_pos ?_)
      have := lt_of_lt_of_eq t.2 (trips_sweep v hv)
      show (256 * t.val + r.val) / 256 < strips v
      omega
    rw [he]; rfl
  · refine (clearOut_apply v hv hw f i j).trans ((if_neg hi).trans ?_)
    exact (soft_off (M := live v w i) (x := smat f i) (not_live v w hv i j hi)).symm

/-- A column pass's sample. -/
theorem col_entry (f : Sample Ideal) (hf : Tame (live v w) (smat f)) : smat (colOut v w hw f).1 = expm (live v w) (smat f) := by
  unfold colOut
  refine pass_eq v hv hw _ _ _ _ _ (fun t r j => ?_) (fun i j hi => ?_)
  · refine (colG_apply v w t _ r j).trans ?_
    rw [strip_row v hv hw]; rfl
  · rw [hf.off i j (not_live v w hv i j hi)]
    exact (if_neg (not_live v w hv i j hi)).symm

/-- What the rows of the first `k` strips add up to. -/
theorem col_carry (f : Sample Ideal) (k : ℕ) (hk : k ≤ (k0_t3_loop v).trips) (j : Fin 2048) :
    (sweepTo v hw (k0_pay7 (F := Ideal)) (colG v w) (colH v w) f k).2 (ix2 0 j)
      = ∑ n ∈ Finset.univ.filter (fun n : Fin 8 => n.val < k), ∑ r : Fin 256, expm (live v w) (smat f) (rowAt n.val n.2 r) j := by
  induction k with
  | zero =>
    unfold sweepTo
    rw [iter_zero, Finset.filter_false_of_mem (fun n _ => Nat.not_lt_zero _), Finset.sum_empty]
    exact start_apply (ix2 0 j)
  | succ k ih =>
    have h8 : k < 8 := trip_lt v hv ⟨k, hk⟩
    have hG : ∀ t r j, colG (F := Ideal) v w t (getStrip v hw t f) (ix2 r j)
        = expm (live v w) (smat f) (rowAt t.val (trip_lt v hv t) r) j := fun t r j => by
      refine (colG_apply v w t _ r j).trans ?_
      rw [strip_row v hv hw]; rfl
    have hs : Finset.univ.filter (fun n : Fin 8 => n.val < k + 1) = insert ⟨k, h8⟩ (Finset.univ.filter (fun n : Fin 8 => n.val < k)) := by
      ext n; simp only [Finset.mem_filter, Finset.mem_univ, true_and, Finset.mem_insert, Fin.ext_iff]; omega
    rw [sweepTo_carry v hv hw _ _ _ f _ hG ⟨k, hk⟩, hs, Finset.sum_insert (by simp), add_comm]
    refine (colH_apply v w ⟨k, hk⟩ _ _ j).trans ?_
    refine congr_arg₂ (· + ·) (ih (Nat.le_of_succ_le hk)) (Finset.sum_congr rfl fun r _ => ?_)
    rw [strip_row v hv hw]; rfl

/-- A column pass's sums. -/
theorem col_total (f : Sample Ideal) (j : Fin 2048) : (colOut v w hw f).2 (ix2 0 j) = ∑ i, expm (live v w) (smat f) i j := by
  unfold colOut sweepOut
  rw [col_carry v w hv hw f _ le_rfl j, trips_sweep v hv, Fin.sum_univ_tiles 8 256 (by norm_num) fun i => expm (live v w) (smat f) i j,
    Finset.sum_filter]
  refine Finset.sum_congr rfl fun n _ => ?_
  split
  · refine Finset.sum_congr rfl fun r _ => congrArg (fun i => expm (live v w) (smat f) i j) (Fin.ext ?_)
    show 256 * n.val + r.val = _
    simp; try omega
  · next hn =>
    refine (Finset.sum_eq_zero fun r _ => if_neg (not_live v w hv _ j ?_)).symm
    simp; try omega

/-- After a column pass the state holds. -/
theorem col_holds (f : Sample Ideal) (hf : Tame (live v w) (smat f)) : Holds v w (colOut v w hw f) (smat f) :=
  ⟨col_entry v w hv hw f hf, col_total v w hv hw f⟩

omit hv in
/-- Dividing by the sums finishes the columns' softmax. -/
theorem finish {p : Sample Ideal × PerCol} {Y : Fin 2048 → Fin 2048 → EReal} (hp : Holds v w p Y) (hY : Tame (live v w) Y) (i j : Fin 2048) :
    Ideal.div (smat p.1 i j) (den (p.2 (ix2 0 j))) = cols (live v w) Y i j := by
  rw [hp.entry, hp.total]
  exact soft_eq (M := fun i => live v w i j) (x := fun i => Y i j) (fun i => hY.real i j) i

/-- A row pass finishes the columns and makes the rows their softmax. -/
theorem row_eq (p : Sample Ideal × PerCol) (Y : Fin 2048 → Fin 2048 → EReal) (hp : Holds v w p Y) (hY : Tame (live v w) Y) :
    smat (rowOut v w hw p) = rows (live v w) (cols (live v w) Y) := by
  unfold rowOut
  refine pass_eq v hv hw _ _ _ _ _ (fun t r j => ?_) (fun i j hi => ?_)
  · refine (rowG_apply v w p.2 t _ r j).trans ?_
    have he : (fun j => Ideal.div (getStrip v hw t p.1 (ix2 r j)) (den (p.2 (ix2 0 j))))
        = cols (live v w) Y (rowAt t.val (trip_lt v hv t) r) := funext fun j => by
      rw [← finish v w hp hY]
      exact congrArg (fun x => Ideal.div x (den (p.2 (ix2 0 j)))) (getStrip_apply v hv hw t p.1 r j)
    rw [he]
    exact soft_eq (M := live v w (rowAt t.val (trip_lt v hv t) r)) (fun j => (tame_cols (live v w) Y).real _ j) j
  · rw [hp.entry]
    exact (if_neg (not_live v w hv i j hi)).trans (soft_off (M := live v w i) (not_live v w hv i j hi)).symm

/-- The last pass finishes the columns. -/
theorem last_value (p : Sample Ideal × PerCol) (Y : Fin 2048 → Fin 2048 → EReal) (hp : Holds v w p Y) (hY : Tame (live v w) Y) :
    smat (lastOut v hw p) = cols (live v w) Y := by
  unfold lastOut
  refine pass_eq v hv hw _ _ _ _ _ (fun t r j => ?_) (fun i j hi => ?_)
  · refine (last_apply p.2 _ r j).trans ?_
    rw [← finish v w hp hY]
    exact congrArg (fun x => Ideal.div x (den (p.2 (ix2 0 j)))) (getStrip_apply v hv hw t p.1 r j)
  · rw [hp.entry]
    exact (if_neg (not_live v w hv i j hi)).trans (soft_off (M := fun i => live v w i j) (not_live v w hv i j hi)).symm

/-- A row pass and the column pass after it. -/
theorem round_holds (p : Sample Ideal × PerCol) (Y : Fin 2048 → Fin 2048 → EReal) (hp : Holds v w p Y) (hY : Tame (live v w) Y) :
    Holds v w (roundOut v w hw p) (rows (live v w) (cols (live v w) Y)) := by
  have h := row_eq v w hv hw p Y hp hY
  have hc := col_holds v w hv hw (rowOut v w hw p) (h ▸ tame_rows (live v w) _)
  rw [h] at hc
  exact hc

/-- The passes compute five rounds. -/
theorem passes_eq (f : Sample Ideal) : smat (passesOut v w hw f) = sinkhorn (live v w) (smat f) := by
  have h0 := first_eq v w hv hw f
  have h1 := col_holds v w hv hw (firstOut v w hw (clearOut v hw f)) (h0 ▸ tame_rows (live v w) _)
  rw [h0] at h1
  have h2 := round_holds v w hv hw _ _ h1 (tame_rows _ _)
  have h3 := round_holds v w hv hw _ _ h2 (tame_rows _ _)
  have h4 := round_holds v w hv hw _ _ h3 (tame_rows _ _)
  have h5 := round_holds v w hv hw _ _ h4 (tame_rows _ _)
  unfold passesOut
  exact last_value v w hv hw _ _ h5 (tame_rows _ _)

end Cert.KernelIdeal.Sinkhorn
-- ==== Proof.RefValue.lean ====
/-
  What the reference computes, index by index: ten masked softmaxes of the samples, rows and columns in turn.
-/
module

public import proofs.«01_k».proof.Proof.Gen.ReferenceIdeal.Run
public import proofs.«01_k».proof.Proof.Softmax
public import Idealize.ShloMosaic.Lib.Pointwise

@[expose] public section

noncomputable section

namespace Cert.ReferenceIdeal.Sinkhorn

open Cert.ReferenceIdeal Cert.ReferenceIdeal.Gen Cert.ReferenceIdeal.Value Cert.Sinkhorn
open Idealize.ShloMosaic Idealize.ShloMosaic.StableHlo

/-- The batch of samples, and its mask. -/
abbrev Batch : Type := FVec Ideal S8x2048x2048 .f32
abbrev Mask : Type := IVec S8x2048x2048 1

/-- One word everywhere: over a batch, over its rows and over its columns. -/
def all3 (w : BitVec 32) : Batch := broadcastInDim S8x2048x2048 ![] bcast_S_S8x2048x2048 (constant S_ .f32 w)
def allR (w : BitVec 32) : FVec Ideal S8x2048x1 .f32 := broadcastInDim S8x2048x1 ![] bcast_S_S8x2048x1 (constant S_ .f32 w)
def allC (w : BitVec 32) : FVec Ideal S8x1x2048 .f32 := broadcastInDim S8x1x2048 ![] bcast_S_S8x1x2048 (constant S_ .f32 w)

/-- A value of each row, and of each column, over a batch. -/
def spreadR (x : FVec Ideal S8x2048x1 .f32) : Batch := broadcastInDim S8x2048x2048 ![0, 1, 2] bcast_S8x2048x1_S8x2048x2048_0_1_2 x
def spreadC (x : FVec Ideal S8x1x2048 .f32) : Batch := broadcastInDim S8x2048x2048 ![0, 1, 2] bcast_S8x1x2048_S8x2048x2048_0_1_2 x

/-- A batch with its hidden entries set to `-∞`, -/
def hide (μ : Mask) (x : Batch) : Batch :=
  select μ x (all3 0xFF800000#32)

/-- and set to zero. -/
def zeroed (μ : Mask) (x : Batch) : Batch :=
  select μ x (all3 0x00000000#32)

/-- The rows' maxima, -/
def rowPeak (y : Batch) : FVec Ideal S8x2048x1 .f32 :=
  broadcastInDim S8x2048x1 ![0, 1] bcast_S8x2048_S8x2048x1_0_1
    (Host.reduce FloatOps.maximumf y (constant S_ .f32 0xFF800000#32) reducesTo_S8x2048x2048_S8x2048_d2 h_S_)

/-- the exponentials, -/
def rowWeight (μ : Mask) (y : Batch) : Batch :=
  mulf (Host.exp (subf y (spreadR (select (cmpf .olt (Host.absf (rowPeak y)) (allR 0x7F800000#32))
      (rowPeak y) (allR 0x00000000#32))))) (uitofp .f32 μ)

/-- their sums, -/
def rowSum (w : Batch) : FVec Ideal S8x2048x1 .f32 :=
  broadcastInDim S8x2048x1 ![0, 1] bcast_S8x2048_S8x2048x1_0_1
    (Host.reduceAdd w (constant S_ .f32 0x00000000#32) reducesTo_S8x2048x2048_S8x2048_d2 h_S_)

/-- and the softmax of the rows. -/
def rowSoft (μ : Mask) (y : Batch) : Batch :=
  zeroed μ (Host.divf (rowWeight μ y) (spreadR (select (cmpf .ogt (rowSum (rowWeight μ y)) (allR 0x00000000#32))
      (rowSum (rowWeight μ y)) (allR 0x3F800000#32))))

/-- The columns' maxima, -/
def colPeak (y : Batch) : FVec Ideal S8x1x2048 .f32 :=
  broadcastInDim S8x1x2048 ![0, 2] bcast_S8x2048_S8x1x2048_0_2
    (Host.reduce FloatOps.maximumf y (constant S_ .f32 0xFF800000#32) reducesTo_S8x2048x2048_S8x2048_d1 h_S_)

/-- the exponentials, -/
def colWeight (μ : Mask) (y : Batch) : Batch :=
  mulf (Host.exp (subf y (spreadC (select (cmpf .olt (Host.absf (colPeak y)) (allC 0x7F800000#32))
      (colPeak y) (allC 0x00000000#32))))) (uitofp .f32 μ)

/-- their sums, -/
def colSum (w : Batch) : FVec Ideal S8x1x2048 .f32 :=
  broadcastInDim S8x1x2048 ![0, 2] bcast_S8x2048_S8x1x2048_0_2
    (Host.reduceAdd w (constant S_ .f32 0x00000000#32) reducesTo_S8x2048x2048_S8x2048_d1 h_S_)

/-- and the softmax of the columns. -/
def colSoft (μ : Mask) (y : Batch) : Batch :=
  zeroed μ (Host.divf (colWeight μ y) (spreadC (select (cmpf .ogt (colSum (colWeight μ y)) (allC 0x00000000#32))
      (colSum (colWeight μ y)) (allC 0x3F800000#32))))

/-- One round from a batch with hidden entries at `-∞` to another. -/
def hostRound (μ : Mask) (y : Batch) : Batch := colSoft μ (hide μ (rowSoft μ y))

section Chain

variable (V : Valuation τ sig (Elt Ideal))

/-- The named terms of the run are the rounds, each from the one before. -/
theorem v16_eq : (res_main_v16 V : Batch)
    = hide (res_main_v13 V) (Host.divf (V (Proc.devRef .tc main_arg0)) (all3 0x3F800000#32)) := rfl
theorem v39_eq : (res_main_v39 V : Batch) = hide (res_main_v13 V) (rowSoft (res_main_v13 V) (res_main_v16 V)) := rfl
theorem v62_eq : (res_main_v62 V : Batch) = hide (res_main_v13 V) (colSoft (res_main_v13 V) (res_main_v39 V)) := rfl
theorem v85_eq : (res_main_v85 V : Batch) = hide (res_main_v13 V) (rowSoft (res_main_v13 V) (res_main_v62 V)) := rfl
theorem v108_eq : (res_main_v108 V : Batch) = hide (res_main_v13 V) (colSoft (res_main_v13 V) (res_main_v85 V)) := rfl
theorem v131_eq : (res_main_v131 V : Batch) = hide (res_main_v13 V) (rowSoft (res_main_v13 V) (res_main_v108 V)) := rfl
theorem v154_eq : (res_main_v154 V : Batch) = hide (res_main_v13 V) (colSoft (res_main_v13 V) (res_main_v131 V)) := rfl
theorem v177_eq : (res_main_v177 V : Batch) = hide (res_main_v13 V) (rowSoft (res_main_v13 V) (res_main_v154 V)) := rfl
theorem v200_eq : (res_main_v200 V : Batch) = hide (res_main_v13 V) (colSoft (res_main_v13 V) (res_main_v177 V)) := rfl
theorem v223_eq : (res_main_v223 V : Batch) = hide (res_main_v13 V) (rowSoft (res_main_v13 V) (res_main_v200 V)) := rfl

/-- The result of the run. -/
def result : Batch := zeroed (res_main_v13 V) (colSoft (res_main_v13 V) (res_main_v223 V))

/-- The run, in these terms. -/
theorem run_result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v247) = result (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans rfl, (h c).2⟩) (Value.run (F := Ideal) m ρ)

end Chain

/-- The mask of a sample, -/
def seen (μ : Mask) (b : Fin 8) (i j : Fin 2048) : Prop := μ (ix3 b i j) = 1#1

instance (μ : Mask) (b : Fin 8) (i j : Fin 2048) : Decidable (seen μ b i j) := inferInstanceAs (Decidable (_ = _))

/-- and a sample as a matrix. -/
def mat (x : Batch) (b : Fin 8) (i j : Fin 2048) : EReal := x (ix3 b i j)

theorem all3_apply (w : BitVec 32) (k : S8x2048x2048.Idx) : all3 w k = Ideal.ofBits .f32 w := ValueIdx.broadcastInDim_scalar_apply _ _ _
theorem allR_apply (w : BitVec 32) (k : S8x2048x1.Idx) : allR w k = Ideal.ofBits .f32 w := ValueIdx.broadcastInDim_scalar_apply _ _ _
theorem allC_apply (w : BitVec 32) (k : S8x1x2048.Idx) : allC w k = Ideal.ofBits .f32 w := ValueIdx.broadcastInDim_scalar_apply _ _ _

/-- The finite maximum and the divisor, read at an entry. -/
theorem cap_at {s : Shape} (p z u : FVec Ideal s .f32) (k : s.Idx) (hz : z k = Ideal.ofBits .f32 0x7F800000#32)
    (hu : u k = Ideal.ofBits .f32 0x00000000#32) : select (cmpf .olt (Host.absf p) z) p u k = cap (p k) := by
  rw [← pick_cap, ← hz, ← hu]; rfl
theorem den_at {s : Shape} (p z u : FVec Ideal s .f32) (k : s.Idx) (hz : z k = Ideal.ofBits .f32 0x00000000#32)
    (hu : u k = Ideal.ofBits .f32 0x3F800000#32) : select (cmpf .ogt p z) p u k = den (p k) := by
  rw [← pick_den, ← hz, ← hu]; rfl

theorem hide_apply (μ : Mask) (x : Batch) (b : Fin 8) (i j : Fin 2048) :
    hide μ x (ix3 b i j) = if seen μ b i j then mat x b i j else ⊥ := by
  unfold hide
  refine (pick_iff (Iff.rfl : μ (ix3 b i j) = 1#1 ↔ seen μ b i j) _ _).trans ?_
  rw [all3_apply, ofBits_bot]; rfl

theorem zeroed_apply (μ : Mask) (x : Batch) (b : Fin 8) (i j : Fin 2048) :
    zeroed μ x (ix3 b i j) = if seen μ b i j then mat x b i j else 0 := by
  unfold zeroed
  refine (pick_iff (Iff.rfl : μ (ix3 b i j) = 1#1 ↔ seen μ b i j) _ _).trans ?_
  rw [all3_apply, Ideal.ofBits_zero_f32]; rfl

/-- A value of each row, read anywhere in it. -/
theorem spreadR_apply (x : FVec Ideal S8x2048x1 .f32) (b : Fin 8) (i j : Fin 2048) : spreadR x (ix3 b i j) = x (ix3 b i 0) := by
  pointwise [spreadR]

theorem rowPeak_apply (y : Batch) (b : Fin 8) (i : Fin 2048) :
    rowPeak y (ix3 b i 0) = Finset.univ.fold max ⊥ (mat y b i) := by
  pointwise [rowPeak]
  rw [ofBits_bot]; rfl

theorem rowSum_apply (w : Batch) (b : Fin 8) (i : Fin 2048) : rowSum w (ix3 b i 0) = ∑ j, mat w b i j := by
  pointwise [rowSum]
  rfl

theorem rowWeight_apply (μ : Mask) (x : Batch) (b : Fin 8) (i j : Fin 2048) :
    rowWeight μ (hide μ x) (ix3 b i j) = weight (seen μ b i) (mat x b i) j := by
  have hy : mat (hide μ x) b i = shown (seen μ b i) (mat x b i) := funext fun j => hide_apply μ x b i j
  have hp : rowPeak (hide μ x) (ix3 b i 0) = peak (seen μ b i) (mat x b i) := by rw [rowPeak_apply, hy]; rfl
  unfold rowWeight
  rw [mulf_apply]
  refine congr_arg₂ (· * ·) (congrArg Ideal.exp ?_) (flag_value _)
  rw [subf_apply, spreadR_apply]
  refine congr_arg₂ (· - ·) (congrFun hy j) ?_
  exact (cap_at _ _ _ _ (allR_apply _ _) (allR_apply _ _)).trans (congrArg cap hp)

/-- The host's softmax of the rows is the softmax of every row. -/
theorem rowSoft_apply (μ : Mask) (x : Batch) (b : Fin 8) : mat (rowSoft μ (hide μ x)) b = rows (seen μ b) (mat x b) := by
  funext i j
  have hw : mat (rowWeight μ (hide μ x)) b i = weight (seen μ b i) (mat x b i) := funext fun j => rowWeight_apply μ x b i j
  have hs : rowSum (rowWeight μ (hide μ x)) (ix3 b i 0) = ∑ j, weight (seen μ b i) (mat x b i) j := by rw [rowSum_apply, hw]
  refine (zeroed_apply μ _ b i j).trans ?_
  unfold rows soft
  refine if_congr Iff.rfl ?_ rfl
  refine congr_arg₂ Ideal.div (congrFun hw j) ?_
  rw [spreadR_apply]
  exact (den_at _ _ _ _ (allR_apply _ _) (allR_apply _ _)).trans (congrArg den hs)

/-- A value of each column, read anywhere in it. -/
theorem spreadC_apply (x : FVec Ideal S8x1x2048 .f32) (b : Fin 8) (i j : Fin 2048) : spreadC x (ix3 b i j) = x (ix3 b 0 j) := by
  pointwise [spreadC]

theorem colPeak_apply (y : Batch) (b : Fin 8) (j : Fin 2048) :
    colPeak y (ix3 b 0 j) = Finset.univ.fold max ⊥ (fun i => mat y b i j) := by
  pointwise [colPeak]
  rw [ofBits_bot]; rfl

theorem colSum_apply (w : Batch) (b : Fin 8) (j : Fin 2048) : colSum w (ix3 b 0 j) = ∑ i, mat w b i j := by
  pointwise [colSum]
  rfl

theorem colWeight_apply (μ : Mask) (x : Batch) (b : Fin 8) (i j : Fin 2048) :
    colWeight μ (hide μ x) (ix3 b i j) = weight (fun i => seen μ b i j) (fun i => mat x b i j) i := by
  have hy : (fun i => mat (hide μ x) b i j) = shown (fun i => seen μ b i j) (fun i => mat x b i j) := funext fun i => hide_apply μ x b i j
  have hp : colPeak (hide μ x) (ix3 b 0 j) = peak (fun i => seen μ b i j) (fun i => mat x b i j) := by rw [colPeak_apply, hy]; rfl
  unfold colWeight
  rw [mulf_apply]
  refine congr_arg₂ (· * ·) (congrArg Ideal.exp ?_) (flag_value _)
  rw [subf_apply, spreadC_apply]
  refine congr_arg₂ (· - ·) (congrFun hy i) ?_
  exact (cap_at _ _ _ _ (allC_apply _ _) (allC_apply _ _)).trans (congrArg cap hp)

/-- The host's softmax of the columns is the softmax of every column. -/
theorem colSoft_apply (μ : Mask) (x : Batch) (b : Fin 8) : mat (colSoft μ (hide μ x)) b = cols (seen μ b) (mat x b) := by
  funext i j
  have hw : (fun i => mat (colWeight μ (hide μ x)) b i j) = weight (fun i => seen μ b i j) (fun i => mat x b i j) :=
    funext fun i => colWeight_apply μ x b i j
  have hs : colSum (colWeight μ (hide μ x)) (ix3 b 0 j) = ∑ i, weight (fun i => seen μ b i j) (fun i => mat x b i j) i := by
    rw [colSum_apply, ← hw]
  refine (zeroed_apply μ _ b i j).trans ?_
  unfold cols soft
  refine if_congr Iff.rfl ?_ rfl
  refine congr_arg₂ Ideal.div (congrFun hw i) ?_
  rw [spreadC_apply]
  exact (den_at _ _ _ _ (allC_apply _ _) (allC_apply _ _)).trans (congrArg den hs)

section Result

variable (V : Valuation τ sig (Elt Ideal))

/-- A pass from the array before it. -/
theorem rowSoft_step {μ : Mask} {x y : Batch} (h : y = hide μ x) (b : Fin 8) : mat (rowSoft μ y) b = rows (seen μ b) (mat x b) := by
  rw [h, rowSoft_apply]
theorem colSoft_step {μ : Mask} {x y : Batch} (h : y = hide μ x) (b : Fin 8) : mat (colSoft μ y) b = cols (seen μ b) (mat x b) := by
  rw [h, colSoft_apply]

/-- The starting array is the argument itself. -/
theorem start_mat (A : Batch) (b : Fin 8) : mat (Host.divf A (all3 0x3F800000#32)) b = mat A b := by
  funext i j
  show Ideal.div (A (ix3 b i j)) (all3 0x3F800000#32 (ix3 b i j)) = A (ix3 b i j)
  rw [all3_apply, div_one']

/-- Which entries the reference's mask shows. -/
theorem seen_iff (b : Fin 8) (i j : Fin 2048) : seen (res_main_v13 V) b i j
    ↔ live ((V (Proc.devRef .tc main_arg1) : IVec S8 32) (ix1 b)) ((V (Proc.devRef .tc main_arg2) : IVec S8 32) (ix1 b)) i j := by
  have key : res_main_v13 V (ix3 b i j)
      = IntOp.andi (IntOp.cmpi .slt (BitVec.ofNat 32 i.val) ((V (Proc.devRef .tc main_arg1) : IVec S8 32) (ix1 b)))
        (IntOp.cmpi .slt (BitVec.ofNat 32 j.val) ((V (Proc.devRef .tc main_arg2) : IVec S8 32) (ix1 b))) := by
    pointwise [res_main_v13, res_main_v0]
  unfold seen live below
  rw [key]
  generalize IntOp.cmpi .slt (BitVec.ofNat 32 i.val) _ = p
  generalize IntOp.cmpi .slt (BitVec.ofNat 32 j.val) _ = q
  revert p q; decide

/-- The reference computes five rounds of row and column softmax of every sample. -/
theorem result_apply (b : Fin 8) (i j : Fin 2048) : result V (ix3 b i j)
    = sinkhorn (live ((V (Proc.devRef .tc main_arg1) : IVec S8 32) (ix1 b)) ((V (Proc.devRef .tc main_arg2) : IVec S8 32) (ix1 b)))
      (mat (V (Proc.devRef .tc main_arg0)) b) i j := by
  rw [← sinkhorn_congr (seen (res_main_v13 V) b) (seen_iff V b)]
  have key : mat (colSoft (res_main_v13 V) (res_main_v223 V)) b
      = sinkhorn (seen (res_main_v13 V) b) (mat (V (Proc.devRef .tc main_arg0)) b) := by
    rw [colSoft_step (v223_eq V), rowSoft_step (v200_eq V), colSoft_step (v177_eq V), rowSoft_step (v154_eq V), colSoft_step (v131_eq V),
      rowSoft_step (v108_eq V), colSoft_step (v85_eq V), rowSoft_step (v62_eq V), colSoft_step (v39_eq V), rowSoft_step (v16_eq V), start_mat]
    rfl
  unfold result
  rw [zeroed_apply, key]
  split
  · rfl
  · next h => exact ((tame_cols (seen (res_main_v13 V) b) _).off i j h).symm

end Result

end Cert.ReferenceIdeal.Sinkhorn

end
-- ==== Proof.BatchValue.lean ====
module

public import proofs.«01_k».proof.Proof.Frames
public import proofs.«01_k».proof.Proof.SampleValue
public import proofs.«01_k».proof.Proof.RefValue

@[expose] public section

noncomputable section

/-! The whole batch: every sample of the output is five rounds of row and column softmax of the input's sample, and the
    reference computes the same. -/

namespace Cert.KernelIdeal.Sinkhorn

open Cert.KernelIdeal Cert.KernelIdeal.Gen Cert.Sinkhorn
open Idealize.ShloMosaic Idealize.ShloMosaic.TcCoe Idealize.SL Idealize.SL.Sem

/-- The sample a grid point works on. -/
def sampleNo (i : grid0.Coords) : Fin 8 := i 0

theorem off_table (i : grid0.Coords) : k0_off1 i = ![(sampleNo i).val] := by
  have key : ∀ n : Fin 8, (Scalar.indexCast (BitVec.ofNat 32 n.val) : Index).toNat = n.val := by decide
  unfold k0_off1
  exact congrArg (fun n => ![n]) (key (sampleNo i))

theorem off_sample (i : grid0.Coords) : k0_off2 i = ![(sampleNo i).val, 0, 0] := by
  have key : ∀ n : Fin 8, (BitVec.ofNat 32 n.val).toNat = n.val := by decide
  unfold k0_off2
  exact congrArg (fun n => ![n, 0, 0]) (key (sampleNo i))

/-- Grid point `t` works on sample `t`. -/
theorem sampleNo_coords (t : Fin grid0.N) : (sampleNo (grid0.coords t)).val = t.val := by
  revert t; decide

/-- The table's word for a grid point. -/
theorem countAt_eq (i : grid0.Coords) (T : Vec Ideal S8 .i32) : countAt i T = T (ix1 (sampleNo i)) := by
  unfold countAt
  rw [View.read_apply]
  refine congrArg T (funext fun a => Fin.ext ?_)
  match a with
  | 0 =>
    show k0_off1 i 0 + 1 * 0 = (sampleNo i).val
    rw [off_table]; rfl

/-- The place in a batch of an entry of a sample. -/
theorem place (off : Fin 3 → ℕ) (inb : ∀ a, off a + S1x2048x2048.size a ≤ S8x2048x2048.size a) (b : Fin 8) (ho : off = ![b.val, 0, 0])
    (r j : Fin 2048) :
    (Rect.unit (s := S8x2048x2048) off S1x2048x2048.size inb).emb
        (Shape.reshapeEquiv (squeezes_S1x2048x2048_S2048x2048).numel_eq (ix2 r j : S2048x2048.Idx))
      = (ix3 b r j : S8x2048x2048.Idx) := by
  subst ho
  have hc : Shape.reshapeEquiv (squeezes_S1x2048x2048_S2048x2048).numel_eq (ix2 r j : S2048x2048.Idx)
      = (Fin.cons ⟨0, Nat.one_pos⟩ (ix2 r j : S2048x2048.Idx) : S1x2048x2048.Idx) := Shape.reshapeEquiv_cons_one _ _
  rw [hc]
  funext a
  apply Fin.ext
  rw [Rect.emb_apply]
  match a with
  | ⟨0, _⟩ => show b.val + 1 * 0 = b.val; omega
  | ⟨1, _⟩ => show 0 + 1 * r.val = r.val; omega
  | ⟨2, _⟩ => show 0 + 1 * j.val = j.val; omega

theorem emb_out (i : grid0.Coords) (r j : Fin 2048) :
    (sampleRef i (Memref.whole main_v0)).view.emb (ix2 r j) = (ix3 (sampleNo i) r j : S8x2048x2048.Idx) :=
  place _ _ (sampleNo i) (off_sample i) r j

/-- A sample read out of a batch, -/
theorem sampleOf_apply (i : grid0.Coords) (A : Vec Ideal S8x2048x2048 .f32) (r j : Fin 2048) :
    sampleOf i A (ix2 r j) = A (ix3 (sampleNo i) r j) := by
  unfold sampleOf
  rw [View.read_apply]
  exact congrArg A (place _ _ (sampleNo i) (off_sample i) r j)

/-- and written into one. -/
theorem withSample_apply (i : grid0.Coords) (W : Vec Ideal S8x2048x2048 .f32) (x : Sample Ideal) (b : Fin 8) (r j : Fin 2048) :
    withSample i W x (ix3 b r j) = if b = sampleNo i then x (ix2 r j) else W (ix3 b r j) := by
  unfold withSample
  split
  · next h =>
    subst h
    rw [← emb_out, View.write_emb_of_mem _ _ (Finset.mem_univ _)]; rfl
  · next h =>
    refine View.write_of_not_mem _ _ _ ?_
    intro hm
    obtain ⟨x, -, hx⟩ := Finset.mem_map.1 hm
    obtain ⟨r', j', rfl⟩ : ∃ r' j' : Fin 2048, x = ix2 r' j' := ⟨x 0, x 1, (ix2_eta x).symm⟩
    rw [emb_out] at hx
    exact h (Fin.ext (congrArg (fun k : S8x2048x2048.Idx => (k 0).val) hx).symm)

/-- A sample of a batch as a matrix. -/
def bmat (A : Vec Ideal S8x2048x2048 .f32) (b : Fin 8) (i j : Fin 2048) : EReal := A (ix3 b i j)

variable (T1 T2 : Vec Ideal S8 .i32) (hr : ∀ i : grid0.Coords, InRange (countAt i T1)) (A W : Vec Ideal S8x2048x2048 .f32)

/-- The samples done after `n` grid points. -/
theorem batchTo_apply (n : ℕ) (hn : n ≤ grid0.N) (b : Fin 8) (i j : Fin 2048) :
    batchTo T1 T2 hr A W n (ix3 b i j)
      = if b.val < n then sinkhorn (live (T1 (ix1 b)) (T2 (ix1 b))) (bmat A b) i j else W (ix3 b i j) := by
  induction n with
  | zero => unfold batchTo; rw [iter_zero, if_neg (Nat.not_lt_zero _)]
  | succ n ih =>
    have hc := sampleNo_coords ⟨n, hn⟩
    have hs := batchTo_succ T1 T2 hr A W ⟨n, hn⟩
    dsimp only at hc hs
    rw [hs, withSample_apply, ih (Nat.le_of_succ_le hn)]
    by_cases hb : b = sampleNo (grid0.coords ⟨n, hn⟩)
    · have hbn : b.val = n := (congrArg Fin.val hb).trans hc
      rw [if_pos hb, if_pos (by omega)]
      have key := congrFun (congrFun (passes_eq (countAt (grid0.coords ⟨n, hn⟩) T1) (countAt (grid0.coords ⟨n, hn⟩) T2)
        (hr (grid0.coords ⟨n, hn⟩)) (chk_of_range _ (hr (grid0.coords ⟨n, hn⟩))) (sampleOf (grid0.coords ⟨n, hn⟩) A)) i) j
      refine key.trans ?_
      rw [countAt_eq, countAt_eq, ← hb]
      refine congrArg (fun X => sinkhorn (live (T1 (ix1 b)) (T2 (ix1 b))) X i j) (funext fun r => funext fun l => ?_)
      refine (sampleOf_apply _ A r l).trans ?_
      rw [← hb]; rfl
    · have hbn : b.val ≠ n := fun h => hb (Fin.ext (h.trans hc.symm))
      rw [if_neg hb]
      exact if_congr (by omega) rfl rfl

end Cert.KernelIdeal.Sinkhorn

namespace Cert.Proof

open Cert.Sinkhorn
open Idealize.ShloMosaic Idealize.ShloMosaic.TcCoe Idealize.SL Idealize.SL.Sem

/-- Over the extended reals the kernel computes what the reference does. -/
theorem algebraic : Cert.algebraic_KernelIdeal_ReferenceIdeal (hKernelIdeal := Cert.KernelIdeal.Gen.facts)
    (hReferenceIdeal := Cert.ReferenceIdeal.Gen.facts) (hPre_counts_in_range := Cert.Pre_counts_in_range.Gen.facts) := by
  intro m g m' g' hpre hargs
  have hr : ∀ (c : Dev Cert.KernelIdeal.nD) (i : Cert.KernelIdeal.grid0.Coords),
      Cert.KernelIdeal.Sinkhorn.InRange (Cert.KernelIdeal.Sinkhorn.countAt i (Cert.KernelIdeal.Sinkhorn.agents m c)) :=
    fun c => Cert.KernelIdeal.Sinkhorn.count_range _ _ _ (hpre c)
  refine ⟨fun c => Cert.KernelIdeal.Sinkhorn.batchOut m hr c,
    (θ_run _ _ _).mono (fun _ h => h.1) (Cert.KernelIdeal.Sinkhorn.run_main m g hr),
    (θ_run _ _ _).mono (fun _ h c => ⟨(h c).1.trans ?_, (h c).2⟩) (Cert.ReferenceIdeal.Sinkhorn.run_result m' g')⟩
  funext k
  obtain ⟨b, i, j, rfl⟩ : ∃ (b : Fin 8) (i j : Fin 2048), k = ix3 b i j := ⟨k 0, k 1, k 2, (ix3_eta k).symm⟩
  obtain ⟨h0, h1, h2⟩ := hargs c
  refine (Cert.ReferenceIdeal.Sinkhorn.result_apply _ b i j).trans ?_
  refine Eq.trans ?_ (Cert.KernelIdeal.Sinkhorn.batchTo_apply _ _ _ _ _ _ le_rfl b i j).symm
  rw [if_pos (lt_of_lt_of_eq b.isLt Cert.KernelIdeal.Gen.N_0.symm)]
  show sinkhorn (live ((m' ((c.tc : Thread Cert.ReferenceIdeal.nD Cert.ReferenceIdeal.τ).loc Cert.ReferenceIdeal.main_arg1) : IVec Cert.ReferenceIdeal.S8 32) (ix1 b))
      ((m' ((c.tc : Thread Cert.ReferenceIdeal.nD Cert.ReferenceIdeal.τ).loc Cert.ReferenceIdeal.main_arg2) : IVec Cert.ReferenceIdeal.S8 32) (ix1 b)))
    (Cert.ReferenceIdeal.Sinkhorn.mat (m' ((c.tc : Thread Cert.ReferenceIdeal.nD Cert.ReferenceIdeal.τ).loc Cert.ReferenceIdeal.main_arg0)) b) i j = _
  rw [h0, h1, h2]
  rfl

end Cert.Proof
-- ==== Proof.lean ====
module

public import proofs.«01_k».proof.Defs
public import proofs.«01_k».proof.Proof.Frames
public import proofs.«01_k».proof.Proof.Reference
public import proofs.«01_k».proof.Proof.BatchValue
public import proofs.«01_k».proof.Proof.Gen.Kernel
public import proofs.«01_k».proof.Proof.Gen.KernelIdeal
public import proofs.«01_k».proof.Proof.Gen.ReferenceIdeal
public import proofs.«01_k».proof.Proof.Gen.Pre_counts_in_range

@[expose] public section

noncomputable section

namespace Cert.Proof

open Idealize.ShloMosaic Idealize.SL.Sem

/-- Everything the certificate claims. -/
theorem claim : Cert.Claim := ⟨Cert.Kernel.Gen.facts, Cert.KernelIdeal.Gen.facts, Cert.ReferenceIdeal.Gen.facts, Cert.Pre_counts_in_range.Gen.facts,
  Cert.KernelIdeal.Sinkhorn.frame_bits, Cert.KernelIdeal.Sinkhorn.frame_ideal, frame_reference, trivial, algebraic⟩

end Cert.Proof

end
